-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x160 : Shape := ⟨3, ![2, 128, 160]⟩
abbrev S128x32768 : Shape := ⟨2, ![128, 32768]⟩
abbrev S24x32768 : Shape := ⟨2, ![24, 32768]⟩
abbrev S2x160x128 : Shape := ⟨3, ![2, 160, 128]⟩
abbrev S80x32768 : Shape := ⟨2, ![80, 32768]⟩
abbrev S1x32768 : Shape := ⟨2, ![1, 32768]⟩
abbrev S128x1024 : Shape := ⟨2, ![128, 1024]⟩
abbrev S24x1024 : Shape := ⟨2, ![24, 1024]⟩
abbrev S80x1024 : Shape := ⟨2, ![80, 1024]⟩
abbrev S1x1024 : Shape := ⟨2, ![1, 1024]⟩
abbrev S160x256 : Shape := ⟨2, ![160, 256]⟩
abbrev S160x160 : Shape := ⟨2, ![160, 160]⟩
abbrev S1x160x128 : Shape := ⟨3, ![1, 160, 128]⟩
abbrev S160x128 : Shape := ⟨2, ![160, 128]⟩
abbrev S1x128x1024 : Shape := ⟨3, ![1, 128, 1024]⟩
abbrev S1 : Shape := ⟨1, ![1]⟩
abbrev S1x1x1 : Shape := ⟨3, ![1, 1, 1]⟩
abbrev S160x1024 : Shape := ⟨2, ![160, 1024]⟩
abbrev S256x1024 : Shape := ⟨2, ![256, 1024]⟩
abbrev S4x1024 : Shape := ⟨2, ![4, 1024]⟩
abbrev S1024 : Shape := ⟨1, ![1024]⟩
abbrev S20x1024 : Shape := ⟨2, ![20, 1024]⟩
abbrev S40x1024 : Shape := ⟨2, ![40, 1024]⟩

abbrev nBuf : Space → Nat
  | .hbm => 8
  | .vmem => 14
  | .smem => 0
  | _ => 0

abbrev bufTy : (tb : Table) → Fin (tcTables nBuf tb) → BufTy
  | .hbm, ⟨0, _⟩ => ⟨S2x128x160, .bf16⟩
  | .hbm, ⟨1, _⟩ => ⟨S128x32768, .i32⟩
  | .hbm, ⟨2, _⟩ => ⟨S24x32768, .i32⟩
  | .hbm, ⟨3, _⟩ => ⟨S2x160x128, .bf16⟩
  | .hbm, ⟨4, _⟩ => ⟨S80x32768, .i8⟩
  | .hbm, ⟨5, _⟩ => ⟨S1x32768, .f32⟩
  | .hbm, ⟨6, _⟩ => ⟨S1x32768, .f32⟩
  | .hbm, ⟨7, _⟩ => ⟨S1x32768, .f32⟩
  | .local _ .vmem, ⟨0, _⟩ => ⟨S2x160x128, .bf16⟩
  | .local _ .vmem, ⟨1, _⟩ => ⟨S128x1024, .i32⟩
  | .local _ .vmem, ⟨2, _⟩ => ⟨S128x1024, .i32⟩
  | .local _ .vmem, ⟨3, _⟩ => ⟨S24x1024, .i32⟩
  | .local _ .vmem, ⟨4, _⟩ => ⟨S24x1024, .i32⟩
  | .local _ .vmem, ⟨5, _⟩ => ⟨S80x1024, .i8⟩
  | .local _ .vmem, ⟨6, _⟩ => ⟨S80x1024, .i8⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S160x256, .bf16⟩
  | _, _ => ⟨S2x128x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x160x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x128x160 : Shape := ⟨3, ![2, 128, 160]⟩
abbrev S128x32768 : Shape := ⟨2, ![128, 32768]⟩
abbrev S24x32768 : Shape := ⟨2, ![24, 32768]⟩
abbrev S_ : Shape := ⟨0, ![]⟩
abbrev S256x32768 : Shape := ⟨2, ![256, 32768]⟩
abbrev S256x160 : Shape := ⟨2, ![256, 160]⟩
abbrev S160x256 : Shape := ⟨2, ![160, 256]⟩
abbrev S160x32768 : Shape := ⟨2, ![160, 32768]⟩
abbrev S4 : Shape := ⟨1, ![4]⟩
abbrev S20x32768 : Shape := ⟨2, ![20, 32768]⟩
abbrev S20x1x32768 : Shape := ⟨3, ![20, 1, 32768]⟩
abbrev S1x4x1 : Shape := ⟨3, ![1, 4, 1]⟩
abbrev S20x4x32768 : Shape := ⟨3, ![20, 4, 32768]⟩
abbrev S80x32768 : Shape := ⟨2, ![80, 32768]⟩
abbrev S4x32768 : Shape := ⟨2, ![4, 32768]⟩
abbrev S1x32768 : Shape := ⟨2, ![1, 32768]⟩
abbrev S32768 : Shape := ⟨1, ![32768]⟩

abbrev nBuf : Space → Nat
  | .hbm => 135
  | .vmem => 0
  | .smem => 0
  | _ => 0

abbrev hbmTy0_0 (i : Nat) : BufTy := match i % 128 with
  | 0 => ⟨S2x128x160, .bf16⟩
  | 1 => ⟨S128x32768, .i32⟩
  | 2 => ⟨S24x32768, .i32⟩
  | 3 => ⟨S_, .i32⟩
  | 4 => ⟨S128x32768, .i32⟩
  | 5 => ⟨S128x32768, .i32⟩
  | 6 => ⟨S_, .i32⟩
  | 7 => ⟨S128x32768, .i32⟩
  | 8 => ⟨S128x32768, .i32⟩
  | 9 => ⟨S256x32768, .i32⟩
  | 10 => ⟨S256x160, .bf16⟩
  | 11 => ⟨S256x160, .f32⟩
  | 12 => ⟨S160x256, .f32⟩
  | 13 => ⟨S256x32768, .f32⟩
  | 14 => ⟨S160x32768, .f32⟩
  | 15 => ⟨S4, .i32⟩
  | 16 => ⟨S_, .i32⟩
  | 17 => ⟨S4, .i32⟩
  | 18 => ⟨S4, .i32⟩
  | 19 => ⟨S20x32768, .i32⟩
  | 20 => ⟨S20x1x32768, .i32⟩
  | 21 => ⟨S1x4x1, .i32⟩
  | 22 => ⟨S20x4x32768, .i32⟩
  | 23 => ⟨S20x4x32768, .i32⟩
  | 24 => ⟨S20x4x32768, .i32⟩
  | 25 => ⟨S_, .i32⟩
  | 26 => ⟨S20x4x32768, .i32⟩
  | 27 => ⟨S20x4x32768, .i32⟩
  | 28 => ⟨S80x32768, .i32⟩
  | 29 => ⟨S4x32768, .i32⟩
  | 30 => ⟨S4x32768, .f32⟩
  | 31 => ⟨S1x32768, .f32⟩
  | 32 => ⟨S1x32768, .f32⟩
  | 33 => ⟨S1x32768, .f32⟩
  | 34 => ⟨S32768, .f32⟩
  | 35 => ⟨S_, .i32⟩
  | 36 => ⟨S80x32768, .i32⟩
  | 37 => ⟨S80x32768, .i32⟩
  | 38 => ⟨S80x32768, .f32⟩
  | 39 => ⟨S80x32768, .f32⟩
  | 40 => ⟨S80x32768, .f32⟩
  | 41 => ⟨S80x32768, .f32⟩
  | 42 => ⟨S80x32768, .f32⟩
  | 43 => ⟨S_, .i32⟩
  | 44 => ⟨S80x32768, .i32⟩
  | 45 => ⟨S80x32768, .i32⟩
  | 46 => ⟨S80x32768, .f32⟩
  | 47 => ⟨S80x32768, .f32⟩
  | 48 => ⟨S80x32768, .f32⟩
  | 49 => ⟨S80x32768, .f32⟩
  | 50 => ⟨S80x32768, .f32⟩
  | 51 => ⟨S160x32768, .f32⟩
  | 52 => ⟨S_, .f32⟩
  | 53 => ⟨S32768, .f32⟩
  | 54 => ⟨S_, .f32⟩
  | 55 => ⟨S32768, .f32⟩
  | 56 => ⟨S32768, .f32⟩
  | 57 => ⟨S32768, .f32⟩
  | 58 => ⟨S32768, .f32⟩
  | 59 => ⟨S_, .f32⟩
  | 60 => ⟨S32768, .f32⟩
  | 61 => ⟨S32768, .f32⟩
  | 62 => ⟨S1x32768, .f32⟩
  | 63 => ⟨S80x32768, .f32⟩
  | 64 => ⟨S_, .f32⟩
  | 65 => ⟨S80x32768, .f32⟩
  | 66 => ⟨S80x32768, .f32⟩
  | 67 => ⟨S80x32768, .f32⟩
  | 68 => ⟨S80x32768, .f32⟩
  | 69 => ⟨S80x32768, .f32⟩
  | 70 => ⟨S80x32768, .f32⟩
  | 71 => ⟨S_, .f32⟩
  | 72 => ⟨S80x32768, .f32⟩
  | 73 => ⟨S80x32768, .f32⟩
  | 74 => ⟨S80x32768, .f32⟩
  | 75 => ⟨S80x32768, .f32⟩
  | 76 => ⟨S80x32768, .f32⟩
  | 77 => ⟨S_, .f32⟩
  | 78 => ⟨S32768, .f32⟩
  | 79 => ⟨S_, .f32⟩
  | 80 => ⟨S32768, .f32⟩
  | 81 => ⟨S32768, .f32⟩
  | 82 => ⟨S_, .f32⟩
  | 83 => ⟨S32768, .f32⟩
  | 84 => ⟨S_, .f32⟩
  | 85 => ⟨S32768, .f32⟩
  | 86 => ⟨S32768, .f32⟩
  | 87 => ⟨S32768, .i1⟩
  | 88 => ⟨S32768, .f32⟩
  | 89 => ⟨S_, .f32⟩
  | 90 => ⟨S32768, .f32⟩
  | 91 => ⟨S32768, .f32⟩
  | 92 => ⟨S_, .f32⟩
  | 93 => ⟨S32768, .f32⟩
  | 94 => ⟨S32768, .f32⟩
  | 95 => ⟨S1x32768, .f32⟩
  | 96 => ⟨S80x32768, .f32⟩
  | 97 => ⟨S80x32768, .f32⟩
  | 98 => ⟨S1x32768, .f32⟩
  | 99 => ⟨S80x32768, .f32⟩
  | 100 => ⟨S80x32768, .f32⟩
  | 101 => ⟨S80x32768, .f32⟩
  | 102 => ⟨S_, .i32⟩
  | 103 => ⟨S_, .f32⟩
  | 104 => ⟨S_, .f32⟩
  | 105 => ⟨S80x32768, .f32⟩
  | 106 => ⟨S80x32768, .f32⟩
  | 107 => ⟨S_, .f32⟩
  | 108 => ⟨S80x32768, .f32⟩
  | 109 => ⟨S80x32768, .f32⟩
  | 110 => ⟨S1x32768, .f32⟩
  | 111 => ⟨S80x32768, .f32⟩
  | 112 => ⟨S80x32768, .f32⟩
  | 113 => ⟨S1x32768, .f32⟩
  | 114 => ⟨S80x32768, .f32⟩
  | 115 => ⟨S80x32768, .f32⟩
  | 116 => ⟨S80x32768, .f32⟩
  | 117 => ⟨S_, .i32⟩
  | 118 => ⟨S_, .f32⟩
  | 119 => ⟨S_, .f32⟩
  | 120 => ⟨S80x32768, .f32⟩
  | 121 => ⟨S80x32768, .f32⟩
  | 122 => ⟨S_, .f32⟩
  | 123 => ⟨S80x32768, .f32⟩
  | 124 => ⟨S80x32768, .f32⟩
  | 125 => ⟨S80x32768, .i32⟩
  | 126 => ⟨S80x32768, .i32⟩
  | 127 => ⟨S_, .i32⟩
  | _ => ⟨S2x128x160, .bf16⟩

abbrev hbmTy0_1 (i : Nat) : BufTy := match i % 128 with
  | 0 => ⟨S80x32768, .i32⟩
  | 1 => ⟨S80x32768, .i32⟩
  | 2 => ⟨S80x32768, .i32⟩
  | 3 => ⟨S80x32768, .i8⟩
  | 4 => ⟨S1x32768, .f32⟩
  | 5 => ⟨S1x32768, .f32⟩
  | 6 => ⟨S1x32768, .f32⟩
  | _ => ⟨S2x128x160, .bf16⟩

abbrev hbmTy (i : Nat) : BufTy := match i / 128 with
  | 0 => hbmTy0_0 i
  | 1 => hbmTy0_1 i
  | _ => ⟨S2x128x160, .bf16⟩

abbrev bufTy : (tb : Table) → Fin (tcTables nBuf tb) → BufTy
  | .hbm, ⟨i, _⟩ => hbmTy i
  | _, _ => ⟨S2x128x160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_call0_v0 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_15 : Ref sig .tc := ⟨.hbm, 102, rfl⟩
abbrev main_cst_16 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_17 : Ref sig .tc := ⟨.hbm, 117, rfl⟩
abbrev main_cst_18 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_19 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]
-- ==== Proof.KernelBits.BlockValues.lean ====
/- What one grid point of the kernel computes, as functions of the three blocks it reads: the words of the kernel's own
   operations, in order, with the loads replaced by the blocks' contents. -/
module

public import proofs.«01_k».proof.Proof.Gen.Kernel.Launch
public import proofs.«01_k».proof.Proof.Gen.Kernel.Skeleton
public import Idealize.ShloMosaic.Lib.Pipeline.FrameBody

@[expose] public section

noncomputable section

namespace Cert.Kernel.Body

open Cert.Kernel Cert.Kernel.Gen
open Idealize.ShloMosaic Idealize.ShloMosaic.TcCoe

variable {F : FTy → Type} [FloatOps F]

/-- The 0/1 matrix that puts the gradient's channels into the kernel's row order. -/
def perm : FVec F S160x160 .bf16 := k0_pay7 k0_pay2 k0_pay3 (k0_pay6 k0_pay2 k0_pay3 2#32 k0_pay4 k0_pay5)

/-- The two stores of the first point into the scratch (last first): the permuted gradient of each half of the bags. -/
def scratchPieces (x0 : Vec F S2x160x128 .bf16) : List (View.Piece (Elt F) S160x256 .bf16) :=
  [⟨Rect.unit ![0, 128] S160x128.size inb_S160x256_S160x128_0_128,
      k0_pay9 perm (View.ld (Val := Elt F) (e' := .bf16) x0 (Rect.unit ![1, 0, 0] S1x160x128.size inb_S2x160x128_S1x160x128_1_0_0))⟩,
    ⟨Rect.unit ![0, 0] S160x128.size inb_S160x256_S160x128_0_0,
      k0_pay8 perm (View.ld (Val := Elt F) (e' := .bf16) x0 (Rect.unit ![0, 0, 0] S1x160x128.size inb_S2x160x128_S1x160x128_0_0_0))⟩]

/-- What the first point leaves in the scratch: the permuted gradient, the two halves of the bags side by side. -/
def scratchOf (x0 : Vec F S2x160x128 .bf16) : Vec F S160x256 .bf16 := View.canon (Val := Elt F) (scratchPieces x0)

/-- The counts block, as the whole-block load reads it. -/
def countsOf (x1 : Vec F S128x1024 .i32) : Vec F S128x1024 .i32 :=
  View.ld (Val := Elt F) (e' := .i32) x1 (Rect.unit ![0, 0] S128x1024.size inb_S128x1024_S128x1024_0_0)

/-- The scratch, as the whole-scratch load reads it. -/
def scratchLd (s : Vec F S160x256 .bf16) : Vec F S160x256 .bf16 :=
  View.ld (Val := Elt F) (e' := .bf16) s (Rect.unit ![0, 0] S160x256.size inb_S160x256_S160x256_0_0)

/-- Rows 20 to 23 of the words block: scale, bias, momentum and padding. -/
def tailOf (x2 : Vec F S24x1024 .i32) : Vec F S4x1024 .i32 :=
  View.ld (Val := Elt F) (e' := .i32) x2 (Rect.unit ![20, 0] S4x1024.size inb_S24x1024_S4x1024_20_0)

/-- Rows 0 to 19 of the words block: the packed codes. -/
def wordsOf (x2 : Vec F S24x1024 .i32) : Vec F S20x1024 .i32 :=
  View.ld (Val := Elt F) (e' := .i32) x2 (Rect.unit ![0, 0] S20x1024.size inb_S24x1024_S20x1024_0_0)

/-- The condition of the body's second branch: some count of the block is above 256. -/
abbrev big (x1 : Vec F S128x1024 .i32) : Prop :=
  Scalar.cmpi .ne (Scalar.extui (Scalar.cmpi .sgt (extractAt ![0, 0, 0] (k0_pay12 x1) inpos_S1x1x1_p0_0_0) 256#32)) 0#32 = 1#1

/-- The pooled gradient of the block, rows in the kernel's order, from the scratch `s` and the loaded counts `x1`. -/
def gradOf (s : Vec F S160x256 .bf16) (x1 : Vec F S128x1024 .i32) : FVec F S160x1024 .f32 :=
  if big (countsOf x1) then k0_pay13 (countsOf x1) (scratchLd s) (scratchLd s) else k0_pay14 (countsOf x1) (scratchLd s)

section
variable (g : FVec F S160x1024 .f32) (x2 : Vec F S24x1024 .i32)

/-- `sqrt (momentum) + eps`. -/
def denomOf : FVec F S1x1024 .f32 := k0_pay19 g (tailOf x2)
/-- The updated weights, rows 0 to 39 of the kernel's order. -/
def weight0 : FVec F S40x1024 .f32 := k0_pay22 g (k0_pay16 (tailOf x2)) (k0_pay17 (tailOf x2)) (denomOf g x2) (k0_pay21 (wordsOf x2))
/-- Rows 40 to 79. -/
def weight1 : FVec F S40x1024 .f32 := k0_pay23 g (k0_pay16 (tailOf x2)) (k0_pay17 (tailOf x2)) (denomOf g x2) (k0_pay20 (wordsOf x2))
/-- Rows 80 to 119. -/
def weight2 : FVec F S40x1024 .f32 := k0_pay24 g (k0_pay16 (tailOf x2)) (k0_pay17 (tailOf x2)) (denomOf g x2) (k0_pay20 (wordsOf x2))
/-- The old weights of rows 120 to 159. -/
def old3 : FVec F S40x1024 .f32 := k0_pay25 (k0_pay16 (tailOf x2)) (k0_pay17 (tailOf x2)) (k0_pay20 (wordsOf x2))

/-- The new momentum of the block. -/
def momOut : FVec F S1x1024 .f32 := k0_pay18 g (tailOf x2)
/-- The new bias of the block: the columns' least weight. -/
def biasOut : FVec F S1x1024 .f32 := k0_pay28 (denomOf g x2) (weight0 g x2) (weight1 g x2) (weight2 g x2) (old3 x2) (k0_pay26 g)
/-- The new scale of the block. -/
def scaleOut : FVec F S1x1024 .f32 := k0_pay29 (denomOf g x2) (weight0 g x2) (weight1 g x2) (weight2 g x2) (old3 x2) (k0_pay26 g)
/-- The new codes of the block. -/
def codesOut : IVec S80x1024 8 :=
  k0_pay1 (k0_pay27 (denomOf g x2) (old3 x2) (k0_pay26 g)) (scaleOut g x2)
    (k0_pay30 (denomOf g x2) (weight0 g x2) (weight1 g x2) (weight2 g x2) (old3 x2) (k0_pay26 g))
    (k0_pay31 (denomOf g x2) (weight0 g x2) (weight1 g x2) (weight2 g x2) (old3 x2) (k0_pay26 g))
    (k0_pay32 (denomOf g x2) (weight0 g x2) (weight1 g x2) (weight2 g x2) (old3 x2) (k0_pay26 g))
    (k0_pay33 (denomOf g x2) (weight0 g x2) (weight1 g x2) (weight2 g x2) (old3 x2) (k0_pay26 g))
end

end Cert.Kernel.Body

end
-- ==== Proof.KernelBits.BodyRun.lean ====
/- The body of the kernel run once, case by case: from any staging buffers it leaves the values of BlockValues.lean. -/
module

public import proofs.«01_k».proof.Proof.KernelBits.BlockValues
public import proofs.«01_k».proof.Proof.Gen.Kernel.Points
public import proofs.«01_k».proof.Proof.Gen.Kernel.Frame
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the point is the first. -/
abbrev first (i : grid0.Coords) : Prop :=
  (Scalar.cmpi .ne (Scalar.extui (Scalar.cmpi .eq (BitVec.ofNat 32 (i 0).val) 0#32)) 0#32) = 1#1

/-- The two stores cover the scratch. -/
theorem cover_scratch (x0 : Vec F S2x160x128 .bf16) (y : S160x256.Idx) : ∃ pc ∈ scratchPieces x0, y ∈ pc.1.set :=
  View.cover_of_tiledL (scratchPieces x0) S160x128.size (by sl_kernel_rfl) y

/-- A load of the whole scratch after the two stores reads what they left. -/
theorem load_scratch (arg8 : Memref sig .tc .vmem S160x256 .bf16) (x0 : Vec F S2x160x128 .bf16) :
    arg8.view.readCov (scratchPieces x0) (Rect.unit ![0, 0] S160x256.size inb_S160x256_S160x256_0_0).toLoadRect = scratchLd (scratchOf x0) :=
  View.readCov_eq_canon' _ _ _

set_option maxHeartbeats 2000000 in
/-- The first point, some count above 256. -/
theorem run_first_big (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : first i)
    (x0 : Vec F S2x160x128 .bf16) (x1 : Vec F S128x1024 .i32) (x2 : Vec F S24x1024 .i32) (hc1 : big (countsOf x1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf (scratchOf x0) x1) x2) ∗ owns (c : Thread nD τ) arg5 fullShare (scaleOut (gradOf (scratchOf x0) x1) x2) ∗ owns (c : Thread nD τ) arg6 fullShare (biasOut (gradOf (scratchOf x0) x1) x2) ∗ owns (c : Thread nD τ) arg7 fullShare (momOut (gradOf (scratchOf x0) x1) x2) ∗ owns (c : Thread nD τ) arg8 fullShare (scratchOf x0)) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  simp only [cc0_adagrad_requant_eq_skeleton]; unfold cc0_adagrad_requant_skel
  simp only [k0_part4_eq_skeleton, k0_part1_eq_skeleton, k0_part2_eq_skeleton, k0_part3_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hk⟩
  obtain rfl := hf0; obtain rfl := hf1; obtain rfl := hf2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    rotate_left
    · iexact H3
    ipureintro
    rw [View.read_writes_full, gradOf, if_pos hc1]
    exact congrArg (fun s => codesOut (k0_pay13 (countsOf (arg2.view.read (Elt F) f1)) s s) (arg3.view.read (Elt F) f2)) (load_scratch arg8 (arg1.view.read (Elt F) f0))
  isplitl [H4]
  · iexists _; isplitr
    rotate_left
    · iexact H4
    ipureintro
    rw [View.read_writes_full, gradOf, if_pos hc1]
    exact congrArg (fun s => scaleOut (k0_pay13 (countsOf (arg2.view.read (Elt F) f1)) s s) (arg3.view.read (Elt F) f2)) (load_scratch arg8 (arg1.view.read (Elt F) f0))
  isplitl [H5]
  · iexists _; isplitr
    rotate_left
    · iexact H5
    ipureintro
    rw [View.read_writes_full, gradOf, if_pos hc1]
    exact congrArg (fun s => biasOut (k0_pay13 (countsOf (arg2.view.read (Elt F) f1)) s s) (arg3.view.read (Elt F) f2)) (load_scratch arg8 (arg1.view.read (Elt F) f0))
  isplitl [H6]
  · iexists _; isplitr
    rotate_left
    · iexact H6
    ipureintro
    rw [View.read_writes_full, gradOf, if_pos hc1]
    exact congrArg (fun s => momOut (k0_pay13 (countsOf (arg2.view.read (Elt F) f1)) s s) (arg3.view.read (Elt F) f2)) (load_scratch arg8 (arg1.view.read (Elt F) f0))
  iexists _; isplitr
  rotate_left
  · iexact HS0
  ipureintro; exact View.read_writes_eq_canon _ _ _ (cover_scratch _)

set_option maxHeartbeats 2000000 in
/-- The first point, no count above 256. -/
theorem run_first_small (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : first i)
    (x0 : Vec F S2x160x128 .bf16) (x1 : Vec F S128x1024 .i32) (x2 : Vec F S24x1024 .i32) (hc1 : ¬big (countsOf x1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf (scratchOf x0) x1) x2) ∗ owns (c : Thread nD τ) arg5 fullShare (scaleOut (gradOf (scratchOf x0) x1) x2) ∗ owns (c : Thread nD τ) arg6 fullShare (biasOut (gradOf (scratchOf x0) x1) x2) ∗ owns (c : Thread nD τ) arg7 fullShare (momOut (gradOf (scratchOf x0) x1) x2) ∗ owns (c : Thread nD τ) arg8 fullShare (scratchOf x0)) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  simp only [cc0_adagrad_requant_eq_skeleton]; unfold cc0_adagrad_requant_skel
  simp only [k0_part4_eq_skeleton, k0_part1_eq_skeleton, k0_part2_eq_skeleton, k0_part3_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hk⟩
  obtain rfl := hf0; obtain rfl := hf1; obtain rfl := hf2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    rotate_left
    · iexact H3
    ipureintro
    rw [View.read_writes_full, gradOf, if_neg hc1]
    exact congrArg (fun s => codesOut (k0_pay14 (countsOf (arg2.view.read (Elt F) f1)) s) (arg3.view.read (Elt F) f2)) (load_scratch arg8 (arg1.view.read (Elt F) f0))
  isplitl [H4]
  · iexists _; isplitr
    rotate_left
    · iexact H4
    ipureintro
    rw [View.read_writes_full, gradOf, if_neg hc1]
    exact congrArg (fun s => scaleOut (k0_pay14 (countsOf (arg2.view.read (Elt F) f1)) s) (arg3.view.read (Elt F) f2)) (load_scratch arg8 (arg1.view.read (Elt F) f0))
  isplitl [H5]
  · iexists _; isplitr
    rotate_left
    · iexact H5
    ipureintro
    rw [View.read_writes_full, gradOf, if_neg hc1]
    exact congrArg (fun s => biasOut (k0_pay14 (countsOf (arg2.view.read (Elt F) f1)) s) (arg3.view.read (Elt F) f2)) (load_scratch arg8 (arg1.view.read (Elt F) f0))
  isplitl [H6]
  · iexists _; isplitr
    rotate_left
    · iexact H6
    ipureintro
    rw [View.read_writes_full, gradOf, if_neg hc1]
    exact congrArg (fun s => momOut (k0_pay14 (countsOf (arg2.view.read (Elt F) f1)) s) (arg3.view.read (Elt F) f2)) (load_scratch arg8 (arg1.view.read (Elt F) f0))
  iexists _; isplitr
  rotate_left
  · iexact HS0
  ipureintro; exact View.read_writes_eq_canon _ _ _ (cover_scratch _)

set_option maxHeartbeats 2000000 in
/-- A later point, some count above 256. -/
theorem run_later_big (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : ¬first i)
    (x0 : Vec F S2x160x128 .bf16) (x1 : Vec F S128x1024 .i32) (x2 : Vec F S24x1024 .i32) (xs : Vec F S160x256 .bf16) (hc1 : big (countsOf x1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf xs x1) x2) ∗ owns (c : Thread nD τ) arg5 fullShare (scaleOut (gradOf xs x1) x2) ∗ owns (c : Thread nD τ) arg6 fullShare (biasOut (gradOf xs x1) x2) ∗ owns (c : Thread nD τ) arg7 fullShare (momOut (gradOf xs x1) x2) ∗ owns (c : Thread nD τ) arg8 fullShare xs) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  simp only [cc0_adagrad_requant_eq_skeleton]; unfold cc0_adagrad_requant_skel
  simp only [k0_part4_eq_skeleton, k0_part1_eq_skeleton, k0_part2_eq_skeleton, k0_part3_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, Hk⟩
  obtain rfl := hf0; obtain rfl := hf1; obtain rfl := hf2; obtain rfl := hfs0
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    rotate_left
    · iexact H3
    ipureintro
    rw [View.read_writes_full, gradOf, if_pos hc1]
    rfl
  isplitl [H4]
  · iexists _; isplitr
    rotate_left
    · iexact H4
    ipureintro
    rw [View.read_writes_full, gradOf, if_pos hc1]
    rfl
  isplitl [H5]
  · iexists _; isplitr
    rotate_left
    · iexact H5
    ipureintro
    rw [View.read_writes_full, gradOf, if_pos hc1]
    rfl
  isplitl [H6]
  · iexists _; isplitr
    rotate_left
    · iexact H6
    ipureintro
    rw [View.read_writes_full, gradOf, if_pos hc1]
    rfl
  iexists _; isplitr; · ipureintro; rfl
  iexact HS0

set_option maxHeartbeats 2000000 in
/-- A later point, no count above 256. -/
theorem run_later_small (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : ¬first i)
    (x0 : Vec F S2x160x128 .bf16) (x1 : Vec F S128x1024 .i32) (x2 : Vec F S24x1024 .i32) (xs : Vec F S160x256 .bf16) (hc1 : ¬big (countsOf x1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf xs x1) x2) ∗ owns (c : Thread nD τ) arg5 fullShare (scaleOut (gradOf xs x1) x2) ∗ owns (c : Thread nD τ) arg6 fullShare (biasOut (gradOf xs x1) x2) ∗ owns (c : Thread nD τ) arg7 fullShare (momOut (gradOf xs x1) x2) ∗ owns (c : Thread nD τ) arg8 fullShare xs) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  simp only [cc0_adagrad_requant_eq_skeleton]; unfold cc0_adagrad_requant_skel
  simp only [k0_part4_eq_skeleton, k0_part1_eq_skeleton, k0_part2_eq_skeleton, k0_part3_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, Hk⟩
  obtain rfl := hf0; obtain rfl := hf1; obtain rfl := hf2; obtain rfl := hfs0
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    rotate_left
    · iexact H3
    ipureintro
    rw [View.read_writes_full, gradOf, if_neg hc1]
    rfl
  isplitl [H4]
  · iexists _; isplitr
    rotate_left
    · iexact H4
    ipureintro
    rw [View.read_writes_full, gradOf, if_neg hc1]
    rfl
  isplitl [H5]
  · iexists _; isplitr
    rotate_left
    · iexact H5
    ipureintro
    rw [View.read_writes_full, gradOf, if_neg hc1]
    rfl
  isplitl [H6]
  · iexists _; isplitr
    rotate_left
    · iexact H6
    ipureintro
    rw [View.read_writes_full, gradOf, if_neg hc1]
    rfl
  iexists _; isplitr; · ipureintro; rfl
  iexact HS0

end Cert.Kernel.Body

end
-- ==== Proof.KernelBits.Launch.lean ====
/- The whole launch of the kernel: the scratch filled by the first point and kept, every point's outputs in closed form, and
   the run of the program from any memory. -/
module

public import proofs.«01_k».proof.Proof.KernelBits.BodyRun
public import Idealize.ShloMosaic.Lib.Pipeline.Value
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the first point only. -/
theorem first_iff_mod : ∀ t : Fin cfg0.N, first (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [first, e0]
    word_cmp
   : ∀ t : Fin grid0.N, first (grid0.coords t) ↔ t.val % 32 = 0)

theorem first_iff (t : Fin cfg0.N) : first (grid0.coords t) ↔ t.val = 0 := by
  rw [first_iff_mod, Nat.mod_eq_of_lt (Nat.lt_of_lt_of_eq t.isLt N_0)]

/-- The body at the first point. -/
theorem run_first (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : first i)
    (x0 : Vec F S2x160x128 .bf16) (x1 : Vec F S128x1024 .i32) (x2 : Vec F S24x1024 .i32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf (scratchOf x0) x1) x2) ∗ owns (c : Thread nD τ) arg5 fullShare (scaleOut (gradOf (scratchOf x0) x1) x2) ∗ owns (c : Thread nD τ) arg6 fullShare (biasOut (gradOf (scratchOf x0) x1) x2) ∗ owns (c : Thread nD τ) arg7 fullShare (momOut (gradOf (scratchOf x0) x1) x2) ∗ owns (c : Thread nD τ) arg8 fullShare (scratchOf x0)) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  by_cases hb : big (countsOf x1)
  · exact run_first_big c i arg1 harg1 arg2 harg2 arg3 harg3 arg4 harg4 arg5 harg5 arg6 harg6 arg7 harg7 arg8 harg8 hc0 x0 x1 x2 hb E K
  · exact run_first_small c i arg1 harg1 arg2 harg2 arg3 harg3 arg4 harg4 arg5 harg5 arg6 harg6 arg7 harg7 arg8 harg8 hc0 x0 x1 x2 hb E K

/-- The body at a later point, the scratch holding `xs`. -/
theorem run_later (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : ¬first i)
    (x0 : Vec F S2x160x128 .bf16) (x1 : Vec F S128x1024 .i32) (x2 : Vec F S24x1024 .i32) (xs : Vec F S160x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf xs x1) x2) ∗ owns (c : Thread nD τ) arg5 fullShare (scaleOut (gradOf xs x1) x2) ∗ owns (c : Thread nD τ) arg6 fullShare (biasOut (gradOf xs x1) x2) ∗ owns (c : Thread nD τ) arg7 fullShare (momOut (gradOf xs x1) x2) ∗ owns (c : Thread nD τ) arg8 fullShare xs) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  by_cases hb : big (countsOf x1)
  · exact run_later_big c i arg1 harg1 arg2 harg2 arg3 harg3 arg4 harg4 arg5 harg5 arg6 harg6 arg7 harg7 arg8 harg8 hc0 x0 x1 x2 xs hb E K
  · exact run_later_small c i arg1 harg1 arg2 harg2 arg3 harg3 arg4 harg4 arg5 harg5 arg6 harg6 arg7 harg7 arg8 harg8 hc0 x0 x1 x2 xs hb E K

variable (m : (ℓ : Loc nD τ sig) → Buf (Elt F) ℓ) (ρ : Dev nD → PrngReg)

/-! ## The proof data -/

/-- The first grid point. -/
def t₀ : Fin cfg0.N := ⟨0, by rw [show cfg0.N = 32 from N_0]; omega⟩

/-- What the scratch holds after the first point. -/
def scratchAt (c : Dev nD) : Vec F S160x256 .bf16 := scratchOf (iblk m c 0 t₀)

/-- The pooled gradient of point `t`. -/
def gradAt (c : Dev nD) (t : Fin cfg0.N) : FVec F S160x1024 .f32 := gradOf (scratchAt m c) (iblk m c 1 t)

theorem gradAt_eq (c : Dev nD) (t : Fin cfg0.N) : gradAt m c t = gradOf (scratchAt m c) (iblk m c 1 t) := rfl

theorem scratchAt_eq (c : Dev nD) (t : Fin cfg0.N) (hz : t.val = 0) : scratchAt m c = scratchOf (iblk m c 0 t) :=
  congrArg (fun t => scratchOf (iblk m c 0 t)) (Fin.ext hz.symm : t₀ = t)

abbrev ms0 (t : Fin cfg0.N) : Memref sig .tc .vmem S2x160x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S24x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S80x1024 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
/-- The scratch the kernel keeps between points. -/
abbrev scM : Memref sig .tc .vmem S160x256 .bf16 := Memref.whole cc0_scratch0

/-- The launch's invariant with the scratch as a memref at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before the first point the scratch holds anything; after it, the permuted gradient. -/
def PhiS (c : Dev nD) : ℕ → sProp 𝕄
  | 0 => Pipeline.ΦA spec0 c
  | _ + 1 => iprop(iprop(owns (c : Thread nD τ) scM fullShare (scratchAt m c)) ∗ (∃ r, prngReg c r))

theorem PhiS_pos (c : Dev nD) (n : ℕ) (hz : n ≠ 0) :
    PhiS m c n = iprop(iprop(owns (c : Thread nD τ) scM fullShare (scratchAt m c)) ∗ (∃ r, prngReg c r)) := by
  cases n with
  | zero => exact absurd rfl hz
  | succ n => rfl

/-- The arrays as the region finds them; each input's buffer left at its block; each output's at the point's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesOut (gradAt m c t) (iblk m c 2 t)
    | ⟨4, _⟩ => scaleOut (gradAt m c t) (iblk m c 2 t)
    | ⟨5, _⟩ => biasOut (gradAt m c t) (iblk m c 2 t)
    | ⟨6, _⟩ => momOut (gradAt m c t) (iblk m c 2 t)
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = codesOut (gradAt m c t) (iblk m c 2 t) := by dsimp only [dats]
theorem after4 (c : Dev nD) (t : Fin cfg0.N) : (dats m 0 c).after 4 t = scaleOut (gradAt m c t) (iblk m c 2 t) := by dsimp only [dats]
theorem after5 (c : Dev nD) (t : Fin cfg0.N) : (dats m 0 c).after 5 t = biasOut (gradAt m c t) (iblk m c 2 t) := by dsimp only [dats]
theorem after6 (c : Dev nD) (t : Fin cfg0.N) : (dats m 0 c).after 6 t = momOut (gradAt m c t) (iblk m c 2 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    after0, after1, after2, after3, after4, after5, after6]
  rw [show (dats m 0 c).Φ t.succ = PhiS m c (t.val + 1) from rfl, PhiS_pos m c (t.val + 1) (Nat.succ_ne_zero _),
    show (dats m 0 c).Φ t.castSucc = PhiS m c t.val from rfl, gradAt_eq]
  by_cases hz : t.val = 0
  · rw [hz, show PhiS m c 0 = Pipeline.ΦA spec0 c from rfl, PhiA_eq, scratchAt_eq m c t hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ ((first_iff t).mpr hz) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c t.val hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (fun h => hz ((first_iff t).mp h)) (iblk m c 0 t) (iblk m c 1 t) (iblk m c 2 t) (scratchAt m c) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 32 := N_0; omega), PhiA_eq]
  iintro ⟨HS0, Hg⟩
  isplitl [HS0]
  · iexists _; iexact HS0
  iexact Hg

/-! ## The run -/

set_option backward.isDefEq.respectTransparency.types false in
/-- From any memory with zero counters the program terminates with every array of the launch at what the proof data
    compute, every other buffer as it was, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.BlockValues.lean ====
/- What one grid point of the kernel computes, as functions of the three blocks it reads: the words of the kernel's own
   operations, in order, with the loads replaced by the blocks' contents. -/
module

public import proofs.«01_k».proof.Proof.Gen.KernelIdeal.Launch
public import proofs.«01_k».proof.Proof.Gen.KernelIdeal.Skeleton
public import Idealize.ShloMosaic.Lib.Pipeline.FrameBody

@[expose] public section

noncomputable section

namespace Cert.KernelIdeal.Body

open Cert.KernelIdeal Cert.KernelIdeal.Gen
open Idealize.ShloMosaic Idealize.ShloMosaic.TcCoe

variable {F : FTy → Type} [FloatOps F]

/-- The 0/1 matrix that puts the gradient's channels into the kernel's row order. -/
def perm : FVec F S160x160 .bf16 := k0_pay7 k0_pay2 k0_pay3 (k0_pay6 k0_pay2 k0_pay3 2#32 k0_pay4 k0_pay5)

/-- The two stores of the first point into the scratch (last first): the permuted gradient of each half of the bags. -/
def scratchPieces (x0 : Vec F S2x160x128 .bf16) : List (View.Piece (Elt F) S160x256 .bf16) :=
  [⟨Rect.unit ![0, 128] S160x128.size inb_S160x256_S160x128_0_128,
      k0_pay9 perm (View.ld (Val := Elt F) (e' := .bf16) x0 (Rect.unit ![1, 0, 0] S1x160x128.size inb_S2x160x128_S1x160x128_1_0_0))⟩,
    ⟨Rect.unit ![0, 0] S160x128.size inb_S160x256_S160x128_0_0,
      k0_pay8 perm (View.ld (Val := Elt F) (e' := .bf16) x0 (Rect.unit ![0, 0, 0] S1x160x128.size inb_S2x160x128_S1x160x128_0_0_0))⟩]

/-- What the first point leaves in the scratch: the permuted gradient, the two halves of the bags side by side. -/
def scratchOf (x0 : Vec F S2x160x128 .bf16) : Vec F S160x256 .bf16 := View.canon (Val := Elt F) (scratchPieces x0)

/-- The counts block, as the whole-block load reads it. -/
def countsOf (x1 : Vec F S128x1024 .i32) : Vec F S128x1024 .i32 :=
  View.ld (Val := Elt F) (e' := .i32) x1 (Rect.unit ![0, 0] S128x1024.size inb_S128x1024_S128x1024_0_0)

/-- The scratch, as the whole-scratch load reads it. -/
def scratchLd (s : Vec F S160x256 .bf16) : Vec F S160x256 .bf16 :=
  View.ld (Val := Elt F) (e' := .bf16) s (Rect.unit ![0, 0] S160x256.size inb_S160x256_S160x256_0_0)

/-- Rows 20 to 23 of the words block: scale, bias, momentum and padding. -/
def tailOf (x2 : Vec F S24x1024 .i32) : Vec F S4x1024 .i32 :=
  View.ld (Val := Elt F) (e' := .i32) x2 (Rect.unit ![20, 0] S4x1024.size inb_S24x1024_S4x1024_20_0)

/-- Rows 0 to 19 of the words block: the packed codes. -/
def wordsOf (x2 : Vec F S24x1024 .i32) : Vec F S20x1024 .i32 :=
  View.ld (Val := Elt F) (e' := .i32) x2 (Rect.unit ![0, 0] S20x1024.size inb_S24x1024_S20x1024_0_0)

/-- The condition of the body's second branch: some count of the block is above 256. -/
abbrev big (x1 : Vec F S128x1024 .i32) : Prop :=
  Scalar.cmpi .ne (Scalar.extui (Scalar.cmpi .sgt (extractAt ![0, 0, 0] (k0_pay12 x1) inpos_S1x1x1_p0_0_0) 256#32)) 0#32 = 1#1

/-- The pooled gradient of the block, rows in the kernel's order, from the scratch `s` and the loaded counts `x1`. -/
def gradOf (s : Vec F S160x256 .bf16) (x1 : Vec F S128x1024 .i32) : FVec F S160x1024 .f32 :=
  if big (countsOf x1) then k0_pay13 (countsOf x1) (scratchLd s) (scratchLd s) else k0_pay14 (countsOf x1) (scratchLd s)

section
variable (g : FVec F S160x1024 .f32) (x2 : Vec F S24x1024 .i32)

/-- `sqrt (momentum) + eps`. -/
def denomOf : FVec F S1x1024 .f32 := k0_pay19 g (tailOf x2)
/-- The updated weights, rows 0 to 39 of the kernel's order. -/
def weight0 : FVec F S40x1024 .f32 := k0_pay22 g (k0_pay16 (tailOf x2)) (k0_pay17 (tailOf x2)) (denomOf g x2) (k0_pay21 (wordsOf x2))
/-- Rows 40 to 79. -/
def weight1 : FVec F S40x1024 .f32 := k0_pay23 g (k0_pay16 (tailOf x2)) (k0_pay17 (tailOf x2)) (denomOf g x2) (k0_pay20 (wordsOf x2))
/-- Rows 80 to 119. -/
def weight2 : FVec F S40x1024 .f32 := k0_pay24 g (k0_pay16 (tailOf x2)) (k0_pay17 (tailOf x2)) (denomOf g x2) (k0_pay20 (wordsOf x2))
/-- The old weights of rows 120 to 159. -/
def old3 : FVec F S40x1024 .f32 := k0_pay25 (k0_pay16 (tailOf x2)) (k0_pay17 (tailOf x2)) (k0_pay20 (wordsOf x2))

/-- The new momentum of the block. -/
def momOut : FVec F S1x1024 .f32 := k0_pay18 g (tailOf x2)
/-- The new bias of the block: the columns' least weight. -/
def biasOut : FVec F S1x1024 .f32 := k0_pay28 (denomOf g x2) (weight0 g x2) (weight1 g x2) (weight2 g x2) (old3 x2) (k0_pay26 g)
/-- The new scale of the block. -/
def scaleOut : FVec F S1x1024 .f32 := k0_pay29 (denomOf g x2) (weight0 g x2) (weight1 g x2) (weight2 g x2) (old3 x2) (k0_pay26 g)
/-- The new codes of the block. -/
def codesOut : IVec S80x1024 8 :=
  k0_pay1 (k0_pay27 (denomOf g x2) (old3 x2) (k0_pay26 g)) (scaleOut g x2)
    (k0_pay30 (denomOf g x2) (weight0 g x2) (weight1 g x2) (weight2 g x2) (old3 x2) (k0_pay26 g))
    (k0_pay31 (denomOf g x2) (weight0 g x2) (weight1 g x2) (weight2 g x2) (old3 x2) (k0_pay26 g))
    (k0_pay32 (denomOf g x2) (weight0 g x2) (weight1 g x2) (weight2 g x2) (old3 x2) (k0_pay26 g))
    (k0_pay33 (denomOf g x2) (weight0 g x2) (weight1 g x2) (weight2 g x2) (old3 x2) (k0_pay26 g))
end

end Cert.KernelIdeal.Body

end
-- ==== Proof.BodyRun.lean ====
/- The body of the kernel run once, case by case: from any staging buffers it leaves the values of BlockValues.lean. -/
module

public import proofs.«01_k».proof.Proof.BlockValues
public import proofs.«01_k».proof.Proof.Gen.KernelIdeal.Points
public import proofs.«01_k».proof.Proof.Gen.KernelIdeal.Frame
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the point is the first. -/
abbrev first (i : grid0.Coords) : Prop :=
  (Scalar.cmpi .ne (Scalar.extui (Scalar.cmpi .eq (BitVec.ofNat 32 (i 0).val) 0#32)) 0#32) = 1#1

/-- The two stores cover the scratch. -/
theorem cover_scratch (x0 : Vec F S2x160x128 .bf16) (y : S160x256.Idx) : ∃ pc ∈ scratchPieces x0, y ∈ pc.1.set :=
  View.cover_of_tiledL (scratchPieces x0) S160x128.size (by sl_kernel_rfl) y

/-- A load of the whole scratch after the two stores reads what they left. -/
theorem load_scratch (arg8 : Memref sig .tc .vmem S160x256 .bf16) (x0 : Vec F S2x160x128 .bf16) :
    arg8.view.readCov (scratchPieces x0) (Rect.unit ![0, 0] S160x256.size inb_S160x256_S160x256_0_0).toLoadRect = scratchLd (scratchOf x0) :=
  View.readCov_eq_canon' _ _ _

set_option maxHeartbeats 2000000 in
/-- The first point, some count above 256. -/
theorem run_first_big (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : first i)
    (x0 : Vec F S2x160x128 .bf16) (x1 : Vec F S128x1024 .i32) (x2 : Vec F S24x1024 .i32) (hc1 : big (countsOf x1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf (scratchOf x0) x1) x2) ∗ owns (c : Thread nD τ) arg5 fullShare (scaleOut (gradOf (scratchOf x0) x1) x2) ∗ owns (c : Thread nD τ) arg6 fullShare (biasOut (gradOf (scratchOf x0) x1) x2) ∗ owns (c : Thread nD τ) arg7 fullShare (momOut (gradOf (scratchOf x0) x1) x2) ∗ owns (c : Thread nD τ) arg8 fullShare (scratchOf x0)) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  simp only [cc0_adagrad_requant_eq_skeleton]; unfold cc0_adagrad_requant_skel
  simp only [k0_part4_eq_skeleton, k0_part1_eq_skeleton, k0_part2_eq_skeleton, k0_part3_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hk⟩
  obtain rfl := hf0; obtain rfl := hf1; obtain rfl := hf2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    rotate_left
    · iexact H3
    ipureintro
    rw [View.read_writes_full, gradOf, if_pos hc1]
    exact congrArg (fun s => codesOut (k0_pay13 (countsOf (arg2.view.read (Elt F) f1)) s s) (arg3.view.read (Elt F) f2)) (load_scratch arg8 (arg1.view.read (Elt F) f0))
  isplitl [H4]
  · iexists _; isplitr
    rotate_left
    · iexact H4
    ipureintro
    rw [View.read_writes_full, gradOf, if_pos hc1]
    exact congrArg (fun s => scaleOut (k0_pay13 (countsOf (arg2.view.read (Elt F) f1)) s s) (arg3.view.read (Elt F) f2)) (load_scratch arg8 (arg1.view.read (Elt F) f0))
  isplitl [H5]
  · iexists _; isplitr
    rotate_left
    · iexact H5
    ipureintro
    rw [View.read_writes_full, gradOf, if_pos hc1]
    exact congrArg (fun s => biasOut (k0_pay13 (countsOf (arg2.view.read (Elt F) f1)) s s) (arg3.view.read (Elt F) f2)) (load_scratch arg8 (arg1.view.read (Elt F) f0))
  isplitl [H6]
  · iexists _; isplitr
    rotate_left
    · iexact H6
    ipureintro
    rw [View.read_writes_full, gradOf, if_pos hc1]
    exact congrArg (fun s => momOut (k0_pay13 (countsOf (arg2.view.read (Elt F) f1)) s s) (arg3.view.read (Elt F) f2)) (load_scratch arg8 (arg1.view.read (Elt F) f0))
  iexists _; isplitr
  rotate_left
  · iexact HS0
  ipureintro; exact View.read_writes_eq_canon _ _ _ (cover_scratch _)

set_option maxHeartbeats 2000000 in
/-- The first point, no count above 256. -/
theorem run_first_small (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : first i)
    (x0 : Vec F S2x160x128 .bf16) (x1 : Vec F S128x1024 .i32) (x2 : Vec F S24x1024 .i32) (hc1 : ¬big (countsOf x1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf (scratchOf x0) x1) x2) ∗ owns (c : Thread nD τ) arg5 fullShare (scaleOut (gradOf (scratchOf x0) x1) x2) ∗ owns (c : Thread nD τ) arg6 fullShare (biasOut (gradOf (scratchOf x0) x1) x2) ∗ owns (c : Thread nD τ) arg7 fullShare (momOut (gradOf (scratchOf x0) x1) x2) ∗ owns (c : Thread nD τ) arg8 fullShare (scratchOf x0)) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  simp only [cc0_adagrad_requant_eq_skeleton]; unfold cc0_adagrad_requant_skel
  simp only [k0_part4_eq_skeleton, k0_part1_eq_skeleton, k0_part2_eq_skeleton, k0_part3_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hk⟩
  obtain rfl := hf0; obtain rfl := hf1; obtain rfl := hf2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    rotate_left
    · iexact H3
    ipureintro
    rw [View.read_writes_full, gradOf, if_neg hc1]
    exact congrArg (fun s => codesOut (k0_pay14 (countsOf (arg2.view.read (Elt F) f1)) s) (arg3.view.read (Elt F) f2)) (load_scratch arg8 (arg1.view.read (Elt F) f0))
  isplitl [H4]
  · iexists _; isplitr
    rotate_left
    · iexact H4
    ipureintro
    rw [View.read_writes_full, gradOf, if_neg hc1]
    exact congrArg (fun s => scaleOut (k0_pay14 (countsOf (arg2.view.read (Elt F) f1)) s) (arg3.view.read (Elt F) f2)) (load_scratch arg8 (arg1.view.read (Elt F) f0))
  isplitl [H5]
  · iexists _; isplitr
    rotate_left
    · iexact H5
    ipureintro
    rw [View.read_writes_full, gradOf, if_neg hc1]
    exact congrArg (fun s => biasOut (k0_pay14 (countsOf (arg2.view.read (Elt F) f1)) s) (arg3.view.read (Elt F) f2)) (load_scratch arg8 (arg1.view.read (Elt F) f0))
  isplitl [H6]
  · iexists _; isplitr
    rotate_left
    · iexact H6
    ipureintro
    rw [View.read_writes_full, gradOf, if_neg hc1]
    exact congrArg (fun s => momOut (k0_pay14 (countsOf (arg2.view.read (Elt F) f1)) s) (arg3.view.read (Elt F) f2)) (load_scratch arg8 (arg1.view.read (Elt F) f0))
  iexists _; isplitr
  rotate_left
  · iexact HS0
  ipureintro; exact View.read_writes_eq_canon _ _ _ (cover_scratch _)

set_option maxHeartbeats 2000000 in
/-- A later point, some count above 256. -/
theorem run_later_big (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : ¬first i)
    (x0 : Vec F S2x160x128 .bf16) (x1 : Vec F S128x1024 .i32) (x2 : Vec F S24x1024 .i32) (xs : Vec F S160x256 .bf16) (hc1 : big (countsOf x1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf xs x1) x2) ∗ owns (c : Thread nD τ) arg5 fullShare (scaleOut (gradOf xs x1) x2) ∗ owns (c : Thread nD τ) arg6 fullShare (biasOut (gradOf xs x1) x2) ∗ owns (c : Thread nD τ) arg7 fullShare (momOut (gradOf xs x1) x2) ∗ owns (c : Thread nD τ) arg8 fullShare xs) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  simp only [cc0_adagrad_requant_eq_skeleton]; unfold cc0_adagrad_requant_skel
  simp only [k0_part4_eq_skeleton, k0_part1_eq_skeleton, k0_part2_eq_skeleton, k0_part3_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, Hk⟩
  obtain rfl := hf0; obtain rfl := hf1; obtain rfl := hf2; obtain rfl := hfs0
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    rotate_left
    · iexact H3
    ipureintro
    rw [View.read_writes_full, gradOf, if_pos hc1]
    rfl
  isplitl [H4]
  · iexists _; isplitr
    rotate_left
    · iexact H4
    ipureintro
    rw [View.read_writes_full, gradOf, if_pos hc1]
    rfl
  isplitl [H5]
  · iexists _; isplitr
    rotate_left
    · iexact H5
    ipureintro
    rw [View.read_writes_full, gradOf, if_pos hc1]
    rfl
  isplitl [H6]
  · iexists _; isplitr
    rotate_left
    · iexact H6
    ipureintro
    rw [View.read_writes_full, gradOf, if_pos hc1]
    rfl
  iexists _; isplitr; · ipureintro; rfl
  iexact HS0

set_option maxHeartbeats 2000000 in
/-- A later point, no count above 256. -/
theorem run_later_small (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : ¬first i)
    (x0 : Vec F S2x160x128 .bf16) (x1 : Vec F S128x1024 .i32) (x2 : Vec F S24x1024 .i32) (xs : Vec F S160x256 .bf16) (hc1 : ¬big (countsOf x1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf xs x1) x2) ∗ owns (c : Thread nD τ) arg5 fullShare (scaleOut (gradOf xs x1) x2) ∗ owns (c : Thread nD τ) arg6 fullShare (biasOut (gradOf xs x1) x2) ∗ owns (c : Thread nD τ) arg7 fullShare (momOut (gradOf xs x1) x2) ∗ owns (c : Thread nD τ) arg8 fullShare xs) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  simp only [cc0_adagrad_requant_eq_skeleton]; unfold cc0_adagrad_requant_skel
  simp only [k0_part4_eq_skeleton, k0_part1_eq_skeleton, k0_part2_eq_skeleton, k0_part3_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, Hk⟩
  obtain rfl := hf0; obtain rfl := hf1; obtain rfl := hf2; obtain rfl := hfs0
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    rotate_left
    · iexact H3
    ipureintro
    rw [View.read_writes_full, gradOf, if_neg hc1]
    rfl
  isplitl [H4]
  · iexists _; isplitr
    rotate_left
    · iexact H4
    ipureintro
    rw [View.read_writes_full, gradOf, if_neg hc1]
    rfl
  isplitl [H5]
  · iexists _; isplitr
    rotate_left
    · iexact H5
    ipureintro
    rw [View.read_writes_full, gradOf, if_neg hc1]
    rfl
  isplitl [H6]
  · iexists _; isplitr
    rotate_left
    · iexact H6
    ipureintro
    rw [View.read_writes_full, gradOf, if_neg hc1]
    rfl
  iexists _; isplitr; · ipureintro; rfl
  iexact HS0

end Cert.KernelIdeal.Body

end
-- ==== Proof.Launch.lean ====
/- The whole launch of the kernel: the scratch filled by the first point and kept, every point's outputs in closed form, and
   the run of the program from any memory. -/
module

public import proofs.«01_k».proof.Proof.BodyRun
public import Idealize.ShloMosaic.Lib.Pipeline.Value
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the first point only. -/
theorem first_iff_mod : ∀ t : Fin cfg0.N, first (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [first, e0]
    word_cmp
   : ∀ t : Fin grid0.N, first (grid0.coords t) ↔ t.val % 32 = 0)

theorem first_iff (t : Fin cfg0.N) : first (grid0.coords t) ↔ t.val = 0 := by
  rw [first_iff_mod, Nat.mod_eq_of_lt (Nat.lt_of_lt_of_eq t.isLt N_0)]

/-- The body at the first point. -/
theorem run_first (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : first i)
    (x0 : Vec F S2x160x128 .bf16) (x1 : Vec F S128x1024 .i32) (x2 : Vec F S24x1024 .i32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf (scratchOf x0) x1) x2) ∗ owns (c : Thread nD τ) arg5 fullShare (scaleOut (gradOf (scratchOf x0) x1) x2) ∗ owns (c : Thread nD τ) arg6 fullShare (biasOut (gradOf (scratchOf x0) x1) x2) ∗ owns (c : Thread nD τ) arg7 fullShare (momOut (gradOf (scratchOf x0) x1) x2) ∗ owns (c : Thread nD τ) arg8 fullShare (scratchOf x0)) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  by_cases hb : big (countsOf x1)
  · exact run_first_big c i arg1 harg1 arg2 harg2 arg3 harg3 arg4 harg4 arg5 harg5 arg6 harg6 arg7 harg7 arg8 harg8 hc0 x0 x1 x2 hb E K
  · exact run_first_small c i arg1 harg1 arg2 harg2 arg3 harg3 arg4 harg4 arg5 harg5 arg6 harg6 arg7 harg7 arg8 harg8 hc0 x0 x1 x2 hb E K

/-- The body at a later point, the scratch holding `xs`. -/
theorem run_later (c : Dev nD) (i : grid0.Coords) (arg1 : Memref sig .tc .vmem S2x160x128 .bf16) (harg1 : arg1.IsWhole) (arg2 : Memref sig .tc .vmem S128x1024 .i32) (harg2 : arg2.IsWhole) (arg3 : Memref sig .tc .vmem S24x1024 .i32) (harg3 : arg3.IsWhole) (arg4 : Memref sig .tc .vmem S80x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S160x256 .bf16) (harg8 : arg8.IsWhole) (hc0 : ¬first i)
    (x0 : Vec F S2x160x128 .bf16) (x1 : Vec F S128x1024 .i32) (x2 : Vec F S24x1024 .i32) (xs : Vec F S160x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare (codesOut (gradOf xs x1) x2) ∗ owns (c : Thread nD τ) arg5 fullShare (scaleOut (gradOf xs x1) x2) ∗ owns (c : Thread nD τ) arg6 fullShare (biasOut (gradOf xs x1) x2) ∗ owns (c : Thread nD τ) arg7 fullShare (momOut (gradOf xs x1) x2) ∗ owns (c : Thread nD τ) arg8 fullShare xs) -∗ K ⟨⟩))
      ⊢ wp frame (wpE (defs₀ (F := F)) Variants.none c none) E (cc0_adagrad_requant i arg1 harg1 arg2 harg2 arg3 harg3 arg4 harg4 arg5 harg5 arg6 harg6 arg7 harg7 arg8 harg8) K := by
  by_cases hb : big (countsOf x1)
  · exact run_later_big c i arg1 harg1 arg2 harg2 arg3 harg3 arg4 harg4 arg5 harg5 arg6 harg6 arg7 harg7 arg8 harg8 hc0 x0 x1 x2 xs hb E K
  · exact run_later_small c i arg1 harg1 arg2 harg2 arg3 harg3 arg4 harg4 arg5 harg5 arg6 harg6 arg7 harg7 arg8 harg8 hc0 x0 x1 x2 xs hb E K

variable (m : (ℓ : Loc nD τ sig) → Buf (Elt F) ℓ) (ρ : Dev nD → PrngReg)

/-! ## The proof data -/

/-- The first grid point. -/
def t₀ : Fin cfg0.N := ⟨0, by rw [show cfg0.N = 32 from N_0]; omega⟩

/-- What the scratch holds after the first point. -/
def scratchAt (c : Dev nD) : Vec F S160x256 .bf16 := scratchOf (iblk m c 0 t₀)

/-- The pooled gradient of point `t`. -/
def gradAt (c : Dev nD) (t : Fin cfg0.N) : FVec F S160x1024 .f32 := gradOf (scratchAt m c) (iblk m c 1 t)

theorem gradAt_eq (c : Dev nD) (t : Fin cfg0.N) : gradAt m c t = gradOf (scratchAt m c) (iblk m c 1 t) := rfl

theorem scratchAt_eq (c : Dev nD) (t : Fin cfg0.N) (hz : t.val = 0) : scratchAt m c = scratchOf (iblk m c 0 t) :=
  congrArg (fun t => scratchOf (iblk m c 0 t)) (Fin.ext hz.symm : t₀ = t)

abbrev ms0 (t : Fin cfg0.N) : Memref sig .tc .vmem S2x160x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S24x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S80x1024 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
/-- The scratch the kernel keeps between points. -/
abbrev scM : Memref sig .tc .vmem S160x256 .bf16 := Memref.whole cc0_scratch0

/-- The launch's invariant with the scratch as a memref at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before the first point the scratch holds anything; after it, the permuted gradient. -/
def PhiS (c : Dev nD) : ℕ → sProp 𝕄
  | 0 => Pipeline.ΦA spec0 c
  | _ + 1 => iprop(iprop(owns (c : Thread nD τ) scM fullShare (scratchAt m c)) ∗ (∃ r, prngReg c r))

theorem PhiS_pos (c : Dev nD) (n : ℕ) (hz : n ≠ 0) :
    PhiS m c n = iprop(iprop(owns (c : Thread nD τ) scM fullShare (scratchAt m c)) ∗ (∃ r, prngReg c r)) := by
  cases n with
  | zero => exact absurd rfl hz
  | succ n => rfl

/-- The arrays as the region finds them; each input's buffer left at its block; each output's at the point's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesOut (gradAt m c t) (iblk m c 2 t)
    | ⟨4, _⟩ => scaleOut (gradAt m c t) (iblk m c 2 t)
    | ⟨5, _⟩ => biasOut (gradAt m c t) (iblk m c 2 t)
    | ⟨6, _⟩ => momOut (gradAt m c t) (iblk m c 2 t)
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = codesOut (gradAt m c t) (iblk m c 2 t) := by dsimp only [dats]
theorem after4 (c : Dev nD) (t : Fin cfg0.N) : (dats m 0 c).after 4 t = scaleOut (gradAt m c t) (iblk m c 2 t) := by dsimp only [dats]
theorem after5 (c : Dev nD) (t : Fin cfg0.N) : (dats m 0 c).after 5 t = biasOut (gradAt m c t) (iblk m c 2 t) := by dsimp only [dats]
theorem after6 (c : Dev nD) (t : Fin cfg0.N) : (dats m 0 c).after 6 t = momOut (gradAt m c t) (iblk m c 2 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    after0, after1, after2, after3, after4, after5, after6]
  rw [show (dats m 0 c).Φ t.succ = PhiS m c (t.val + 1) from rfl, PhiS_pos m c (t.val + 1) (Nat.succ_ne_zero _),
    show (dats m 0 c).Φ t.castSucc = PhiS m c t.val from rfl, gradAt_eq]
  by_cases hz : t.val = 0
  · rw [hz, show PhiS m c 0 = Pipeline.ΦA spec0 c from rfl, PhiA_eq, scratchAt_eq m c t hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ ((first_iff t).mpr hz) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c t.val hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (fun h => hz ((first_iff t).mp h)) (iblk m c 0 t) (iblk m c 1 t) (iblk m c 2 t) (scratchAt m c) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 32 := N_0; omega), PhiA_eq]
  iintro ⟨HS0, Hg⟩
  isplitl [HS0]
  · iexists _; iexact HS0
  iexact Hg

/-! ## The run -/

set_option backward.isDefEq.respectTransparency.types false in
/-- From any memory with zero counters the program terminates with every array of the launch at what the proof data
    compute, every other buffer as it was, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Perm.lean ====
/- The 0/1 matrix by which the kernel reorders the gradient's channels: row `r` has its one at channel `chan r`. -/
module

public import proofs.«01_k».proof.Proof.BlockValues
public import Idealize.ShloMosaic.Lib.Pointwise

@[expose] public section

set_option maxRecDepth 16384

noncomputable section

namespace Cert.KernelIdeal.Body

open Cert.KernelIdeal Cert.KernelIdeal.Gen
open Idealize.ShloMosaic

/-- The channel of row `r` of the kernel's order: the rows are four groups of 40; in group `k` the rows `20 h + j` hold the channels
    of code byte `4 j + k / 2 + 2 h`, the even one for even `k`, the odd one for odd `k`. -/
def chan (r : Fin 160) : Fin 160 :=
  ⟨2 * (4 * (r.val % 40 % 20) + r.val / 40 / 2 + 2 * (r.val % 40 / 20)) + r.val / 40 % 2, by omega⟩

/-- The words the kernel compares with the column index to make the matrix (the integer operations of its body, in order). -/
def target (v191 v207 v258 : IVec S160x160 32) : IVec S160x160 32 :=
  let v259 : BitVec 1 := Scalar.cmpi .eq 20#32 0#32
  let v260 : BitVec 32 := Scalar.select v259 1#32 20#32
  have v261 : IVec S160x160 32 := broadcast S160x160 v260
  have v262 : IVec S160x160 32 := remsi v207 v261
  have v263 : IVec S160x160 32 := broadcast S160x160 0#32
  have v264 : IVec S160x160 1 := cmpi .ne v262 v263
  have v265 : IVec S160x160 32 := broadcast S160x160 0#32
  have v266 : IVec S160x160 1 := cmpi .slt v262 v265
  let v267 : BitVec 1 := Scalar.cmpi .slt v260 0#32
  have v268 : IVec S160x160 1 := broadcast S160x160 v267
  have v269 : IVec S160x160 1 := broadcastTo S160x160 v268 broadcasts_S160x160_S160x160
  have v270 : IVec S160x160 1 := xori v266 v269
  have v271 : IVec S160x160 1 := andi v270 v264
  have v272 : IVec S160x160 32 := broadcast S160x160 v260
  have v273 : IVec S160x160 32 := addi v262 v272
  have v274 : IVec S160x160 32 := select v271 v273 v262
  have v275 : IVec S160x160 32 := broadcast S160x160 4#32
  have v276 : IVec S160x160 32 := muli v275 v274
  have v277 : IVec S160x160 32 := addi v276 v258
  have v278 : IVec S160x160 32 := broadcast S160x160 2#32
  have v279 : IVec S160x160 32 := muli v278 v277
  let v280 : BitVec 1 := Scalar.cmpi .eq 2#32 0#32
  let v281 : BitVec 32 := Scalar.select v280 1#32 2#32
  have v282 : IVec S160x160 32 := broadcast S160x160 v281
  have v283 : IVec S160x160 32 := remsi v191 v282
  have v284 : IVec S160x160 32 := broadcast S160x160 0#32
  have v285 : IVec S160x160 1 := cmpi .ne v283 v284
  have v286 : IVec S160x160 32 := broadcast S160x160 0#32
  have v287 : IVec S160x160 1 := cmpi .slt v283 v286
  let v288 : BitVec 1 := Scalar.cmpi .slt v281 0#32
  have v289 : IVec S160x160 1 := broadcast S160x160 v288
  have v290 : IVec S160x160 1 := broadcastTo S160x160 v289 broadcasts_S160x160_S160x160
  have v291 : IVec S160x160 1 := xori v287 v290
  have v292 : IVec S160x160 1 := andi v291 v285
  have v293 : IVec S160x160 32 := broadcast S160x160 v281
  have v294 : IVec S160x160 32 := addi v283 v293
  have v295 : IVec S160x160 32 := select v292 v294 v283
  have v296 : IVec S160x160 32 := addi v279 v295
  v296

theorem perm_eq : perm (F := Ideal) = truncf .bf16 (sitofp .f32 (extui 32 (cmpi .eq (target k0_pay2 k0_pay3 (k0_pay6 k0_pay2 k0_pay3 2#32 k0_pay4 k0_pay5))
    (iota .tc S160x160 32 [1] iota_S160x160_d1_w32)) natLt_1_32)) bitsLt_bf16_f32 := rfl

theorem target_row (r x : Fin 160) : target k0_pay2 k0_pay3 (k0_pay6 k0_pay2 k0_pay3 2#32 k0_pay4 k0_pay5) (ix2 r x)
    = target k0_pay2 k0_pay3 (k0_pay6 k0_pay2 k0_pay3 2#32 k0_pay4 k0_pay5) (ix2 r 0) := rfl

theorem target_zero : ∀ r : Fin 160, target k0_pay2 k0_pay3 (k0_pay6 k0_pay2 k0_pay3 2#32 k0_pay4 k0_pay5) (ix2 r 0)
    = BitVec.ofNat 32 (chan r).val := by decide +kernel

/-- The comparison with the column index, for any words `T`. -/
theorem compare_at (T : IVec S160x160 32) (r x : Fin 160) :
    truncf .bf16 (sitofp (F := Ideal) .f32 (extui 32 (cmpi .eq T (iota .tc S160x160 32 [1] iota_S160x160_d1_w32)) natLt_1_32)) bitsLt_bf16_f32 (ix2 r x)
    = ((((BitVec.ofBool (T (ix2 r x) == BitVec.ofNat 32 x.val)).setWidth 32).toInt : ℝ) : EReal) := by
  have h : iota .tc S160x160 32 [1] iota_S160x160_d1_w32 (ix2 r x) = BitVec.ofNat 32 x.val := by
    show BitVec.ofNat 32 (0 * 160 + x.val) = _
    rw [Nat.zero_mul, Nat.zero_add]
  rw [← h]
  rfl

/-- The matrix at row `r` and column `x`: one at channel `chan r`, zero elsewhere. -/
theorem perm_at (r x : Fin 160) : perm (F := Ideal) (ix2 r x) = if x = chan r then (1 : EReal) else 0 := by
  have h : perm (F := Ideal) (ix2 r x) = ((((BitVec.ofBool (target k0_pay2 k0_pay3 (k0_pay6 k0_pay2 k0_pay3 2#32 k0_pay4 k0_pay5) (ix2 r x)
      == BitVec.ofNat 32 x.val)).setWidth 32).toInt : ℝ) : EReal) := by
    rw [perm_eq, compare_at]
  rw [h, target_row, target_zero]
  by_cases e : x = chan r
  · subst e; simp
  · have q : ¬ BitVec.ofNat 32 (chan r).val = BitVec.ofNat 32 x.val := fun q => e (Fin.ext (by
      have q := congrArg BitVec.toNat q
      simp only [BitVec.toNat_ofNat] at q
      have := x.isLt; have := (chan r).isLt
      omega))
    rw [if_neg e, beq_eq_false_iff_ne.2 q]; simp

/-- Every channel is the channel of one row. -/
theorem chan_bijective : Function.Bijective chan := by
  constructor
  · decide +kernel
  · decide +kernel

end Cert.KernelIdeal.Body

end
-- ==== Proof.Spec.lean ====
/- What the update computes for one column (one table row's 160 weights), in plain words: the pooled gradient, the Adagrad
   step on the dequantised weights, and the weights quantised to four bits again. Both programs are compared with this. -/
module

public import Idealize.ShloMosaic.Lib.Pointwise

@[expose] public section

noncomputable section

namespace Cert.Adagrad

open Idealize.ShloMosaic

/-- A 32-bit word read as a signed integer, as an extended real. -/
def ofWord (b : BitVec 32) : EReal := ((b.toInt : ℝ) : EReal)

/-- The data of one column: the pooled gradient of its 160 weights, its 80 code bytes (each two weights, the even one in the
    low half), and its scale, bias and momentum. -/
structure Column where
  g : Fin 160 → EReal
  code : Fin 80 → BitVec 32
  scale : EReal
  bias : EReal
  mom : EReal

namespace Column

variable (C : Column)

/-- The new momentum: the old one plus the mean of the squared gradient. -/
def newMom : EReal := C.mom + Ideal.div (∑ ch, C.g ch * C.g ch) (Ideal.ofBits .f32 0x43200000#32)

/-- `sqrt (momentum) + eps`. -/
def denom : EReal := Ideal.sqrt C.newMom + Ideal.ofBits .f32 0x322BCC77#32

/-- A weight: its four-bit code times the scale plus the bias, less the step along its gradient. -/
def weight (nibble : BitVec 32) (x : EReal) : EReal :=
  ofWord nibble * C.scale + C.bias - Ideal.div (Ideal.ofBits .f32 0x3DCCCCCD#32 * x) C.denom

/-- The updated weight of the low half of code byte `r`, of channel `2r`. -/
def even (r : Fin 80) : EReal := C.weight (C.code r &&& 15#32) (C.g ⟨2 * r.val, by omega⟩)

/-- The updated weight of the high half of code byte `r`, of channel `1 + 2r`. -/
def odd (r : Fin 80) : EReal := C.weight ((C.code r).sshiftRight 4) (C.g ⟨1 + 2 * r.val, by omega⟩)

/-- The least updated weight, the new bias. -/
def rmin : EReal :=
  min (Finset.univ.fold min (Ideal.ofBits .f32 0x7F800000#32) C.even) (Finset.univ.fold min (Ideal.ofBits .f32 0x7F800000#32) C.odd)

/-- The greatest updated weight. -/
def rmax : EReal :=
  max (Finset.univ.fold max (Ideal.ofBits .f32 0xFF800000#32) C.even) (Finset.univ.fold max (Ideal.ofBits .f32 0xFF800000#32) C.odd)

/-- The new scale: a fifteenth of the range, or one where the range is empty. -/
def newScale : EReal :=
  Scalar.select (Ideal.cmp .oeq C.rmax C.rmin) (Ideal.ofBits .f32 0x3F800000#32)
    (Ideal.div (C.rmax - C.rmin) (Ideal.ofBits .f32 0x41700000#32))

/-- A weight quantised: its distance from the least in units of the scale, rounded to the nearest integer and kept in 0 to 15. -/
def quant (w : EReal) : EReal :=
  min (Ideal.ofBits .f32 0x41700000#32)
    (max 0 (Ideal.liftRound Ideal.roundHalfEven (Ideal.div (w - C.rmin) C.newScale)))

/-- The new code byte `r`. -/
def byte (r : Fin 80) : BitVec 8 :=
  (Ideal.fptosi 32 (C.quant (C.even r)) + Ideal.fptosi 32 (C.quant (C.odd r)) * 16#32).setWidth 8

end Column

/-- The column of table row `u`: the gradient of each channel summed over the bags with the bags' counts (bag `b` in the low
    half of the counts' word, bag `128 + b` in the high half), the code bytes cut from the packed words, and the row's scale,
    bias and momentum read as floats. -/
def column (grad : (⟨3, ![2, 128, 160]⟩ : Shape).Idx → EReal) (counts : (⟨2, ![128, 32768]⟩ : Shape).Idx → BitVec 32)
    (words : (⟨2, ![24, 32768]⟩ : Shape).Idx → BitVec 32) (u : Fin 32768) : Column where
  g ch := ∑ b : Fin 128, grad (ix3 0 b ch) * ofWord (counts (ix2 b u) &&& 65535#32)
    + ∑ b : Fin 128, grad (ix3 1 b ch) * ofWord (counts (ix2 b u) >>> 16)
  code r := (words (ix2 ⟨r.val / 4, by omega⟩ u)).sshiftRight (8 * (r.val % 4)) &&& 255#32
  scale := Ideal.ofBits .f32 (words (ix2 20 u))
  bias := Ideal.ofBits .f32 (words (ix2 21 u))
  mom := Ideal.ofBits .f32 (words (ix2 22 u))

end Cert.Adagrad

end
-- ==== Proof.Words.lean ====
/- Words of 32 bits: the shifts by literal amounts, and the same shifts as the programs' operations. -/
module

public import Idealize.ShloMosaic.Lib.Pointwise

@[expose] public section

namespace Cert.Adagrad

open Idealize.ShloMosaic

/-- A logical right shift by a literal in range. -/
theorem shrui_lit (U : ArithUnit) (x : BitVec 32) (k : Nat) (hk : k < 32) :
    IntOp.shrui U x (BitVec.ofNat 32 k) = x >>> k := by
  have : k % 4294967296 = k := Nat.mod_eq_of_lt (by omega)
  simp [IntOp.shrui, this, hk]

/-- An arithmetic right shift by a literal in range. -/
theorem shrsi_lit (U : ArithUnit) (x : BitVec 32) (k : Nat) (hk : k < 32) :
    IntOp.shrsi U x (BitVec.ofNat 32 k) = x.sshiftRight k := by
  have : k % 4294967296 = k := Nat.mod_eq_of_lt (by omega)
  simp [IntOp.shrsi, this, hk]

/-- A left shift by a literal in range. -/
theorem shli_lit (U : ArithUnit) (x : BitVec 32) (k : Nat) (hk : k < 32) :
    IntOp.shli U x (BitVec.ofNat 32 k) = x <<< k := by
  have : k % 4294967296 = k := Nat.mod_eq_of_lt (by omega)
  simp [IntOp.shli, this, hk]

theorem andi_eq (x y : BitVec 32) : IntOp.andi x y = x &&& y := rfl
theorem ori_eq (x y : BitVec 32) : IntOp.ori x y = x ||| y := rfl

end Cert.Adagrad

end
-- ==== Proof.Pooled.lean ====
/- The pooled gradient of one block: row `r` of the kernel's order holds the pooled gradient of channel `chan r`, whether the
   counts go into the product whole or as their low and high bytes. -/
module

public import proofs.«01_k».proof.Proof.Perm
public import proofs.«01_k».proof.Proof.Spec
public import proofs.«01_k».proof.Proof.Words
public import Idealize.ShloMosaic.Lib.Pipeline.Value
public import Idealize.ShloMosaic.Lib.IdealHost

@[expose] public section

set_option maxRecDepth 16384

noncomputable section

namespace Cert.KernelIdeal.Body

open Cert.KernelIdeal Cert.KernelIdeal.Gen Cert.Adagrad
open Idealize.ShloMosaic

/-! ## The scratch -/

section
variable (x0 : Vec Ideal S2x160x128 .bf16)

/-- A sum against the 0/1 matrix picks the channel. -/
theorem sum_perm (r : Fin 160) (f : Fin 160 → EReal) : ∑ x, perm (F := Ideal) (ix2 r x) * f x = f (chan r) := by
  rw [Finset.sum_eq_single (chan r) (fun x _ h => by rw [perm_at, if_neg h, zero_mul]) (fun h => absurd (Finset.mem_univ _) h),
    perm_at, if_pos rfl, one_mul]

theorem lo_at (r : Fin 160) (b : Fin 128) :
    k0_pay8 perm (View.ld (Val := Elt Ideal) (e' := .bf16) x0 (Rect.unit ![0, 0, 0] S1x160x128.size inb_S2x160x128_S1x160x128_0_0_0)) (ix2 r b)
    = x0 (ix3 0 (chan r) b) := by
  unfold k0_pay8
  pointwise
  exact sum_perm r fun x => x0 (ix3 0 x b)

theorem hi_at (r : Fin 160) (b : Fin 128) :
    k0_pay9 perm (View.ld (Val := Elt Ideal) (e' := .bf16) x0 (Rect.unit ![1, 0, 0] S1x160x128.size inb_S2x160x128_S1x160x128_1_0_0)) (ix2 r b)
    = x0 (ix3 1 (chan r) b) := by
  unfold k0_pay9
  pointwise
  exact sum_perm r fun x => x0 (ix3 1 x b)

/-- The scratch at row `r`, bag `y`: half `y / 128`, channel `chan r`, bag `y % 128` of the half. -/
theorem scratch_at (r : Fin 160) (y : Fin 256) :
    scratchOf x0 (ix2 r y) = x0 (ix3 ⟨y.val / 128, by omega⟩ (chan r) ⟨y.val % 128, by omega⟩) := by
  refine View.canon_apply_of_pieces (fun i : S160x256.Idx => x0 (ix3 ⟨(i 1).val / 128, by have : (i 1).val < 256 := (i 1).isLt; omega⟩
    (chan (i 0)) ⟨(i 1).val % 128, by omega⟩)) (scratchPieces x0) ?_ (ix2 r y) ?_
  · intro p hp x
    rcases List.mem_cons.mp hp with rfl | hp
    · have e : x = ix2 (x 0) (x 1) := by funext a; match a with | ⟨0, _⟩ => rfl | ⟨1, _⟩ => rfl
      rw [e]
      refine (hi_at x0 (x 0) (x 1)).trans ?_
      have hx : (x 1).val < 128 := (x 1).isLt
      refine congrArg x0 (funext fun a => Fin.ext ?_)
      match a with
      | ⟨0, _⟩ => show 1 = (128 + 1 * (x 1).val) / 128; omega
      | ⟨1, _⟩ =>
        refine congrArg (fun q => (chan q).val) (Fin.ext ?_)
        show (x 0).val = 0 + 1 * (x 0).val
        omega
      | ⟨2, _⟩ => show (x 1).val = (128 + 1 * (x 1).val) % 128; omega
    rcases List.mem_cons.mp hp with rfl | hp
    · have e : x = ix2 (x 0) (x 1) := by funext a; match a with | ⟨0, _⟩ => rfl | ⟨1, _⟩ => rfl
      rw [e]
      refine (lo_at x0 (x 0) (x 1)).trans ?_
      have hx : (x 1).val < 128 := (x 1).isLt
      refine congrArg x0 (funext fun a => Fin.ext ?_)
      match a with
      | ⟨0, _⟩ => show 0 = (0 + 1 * (x 1).val) / 128; omega
      | ⟨1, _⟩ =>
        refine congrArg (fun q => (chan q).val) (Fin.ext ?_)
        show (x 0).val = 0 + 1 * (x 0).val
        omega
      | ⟨2, _⟩ => show (x 1).val = (0 + 1 * (x 1).val) % 128; omega
    nomatch hp
  · by_cases h : y.val < 128
    · refine ⟨_, List.mem_cons_of_mem _ List.mem_cons_self, ?_⟩
      rw [Rect.mem_set_unit]
      intro a
      match a with
      | ⟨0, _⟩ => exact ⟨Nat.zero_le _, by show r.val < 0 + 160; omega⟩
      | ⟨1, _⟩ => exact ⟨Nat.zero_le _, by show y.val < 0 + 128; omega⟩
    · refine ⟨_, List.mem_cons_self, ?_⟩
      rw [Rect.mem_set_unit]
      intro a
      match a with
      | ⟨0, _⟩ => exact ⟨Nat.zero_le _, by show r.val < 0 + 160; omega⟩
      | ⟨1, _⟩ => exact ⟨by show 128 ≤ y.val; omega, by show y.val < 128 + 128; omega⟩

end

/-! ## The products -/

theorem toInt_of_lt (a : BitVec 32) (h : a.toNat < 65536) : a.toInt = (a.toNat : ℤ) := by
  rw [BitVec.toInt_eq_toNat_of_lt (by omega)]

theorem ofWord_nonneg (a : BitVec 32) (h : a.toNat < 65536) : 0 ≤ ofWord a := by
  unfold ofWord
  rw [toInt_of_lt a h]
  exact_mod_cast Nat.zero_le _

/-- A word below 65536 is its low byte plus 256 times its high byte. -/
theorem ofWord_bytes (a : BitVec 32) (h : a.toNat < 65536) :
    ofWord (a &&& 255#32) + 256 * ofWord (a.sshiftRight 8) = ofWord a ∧ 0 ≤ ofWord (a &&& 255#32) ∧ 0 ≤ ofWord (a.sshiftRight 8) := by
  have hm : a.msb = false := by rw [BitVec.msb_eq_false_iff_two_mul_lt]; omega
  have h1 : (a &&& 255#32).toNat = a.toNat % 256 := by
    rw [BitVec.toNat_and]; exact Nat.and_two_pow_sub_one_eq_mod _ 8
  have h2 : (a.sshiftRight 8).toNat = a.toNat / 256 := by
    rw [BitVec.sshiftRight_eq_of_msb_false hm, BitVec.toNat_ushiftRight, Nat.shiftRight_eq_div_pow]
  refine ⟨?_, ofWord_nonneg _ (by omega), ofWord_nonneg _ (by omega)⟩
  unfold ofWord
  rw [toInt_of_lt _ (by omega), toInt_of_lt _ (by omega), toInt_of_lt a h, h1, h2]
  have e : ((a.toNat % 256 : ℕ) : ℝ) + 256 * ((a.toNat / 256 : ℕ) : ℝ) = ((a.toNat : ℕ) : ℝ) := by
    exact_mod_cast Nat.mod_add_div _ _
  simp only [Int.cast_natCast]
  rw [← e]
  rfl

/-- A nonnegative real factor moves into a sum. -/
theorem mul_sum_ereal {ι : Type*} (s : Finset ι) (k : EReal) (hk : 0 ≤ k) (ht : k ≠ ⊤) (f : ι → EReal) :
    k * ∑ i ∈ s, f i = ∑ i ∈ s, k * f i := by
  classical
  induction s using Finset.induction_on with
  | empty => simp
  | insert a s ha ih => rw [Finset.sum_insert ha, Finset.sum_insert ha, EReal.left_distrib_of_nonneg_of_ne_top hk ht, ih]

/-- A product with the counts' low bytes plus 256 times the product with their high bytes is the product with the counts. -/
theorem sum_bytes (f : Fin 128 → EReal) (a : Fin 128 → BitVec 32) (h : ∀ b, (a b).toNat < 65536) :
    ∑ b, f b * ofWord (a b &&& 255#32) + 256 * ∑ b, f b * ofWord ((a b).sshiftRight 8) = ∑ b, f b * ofWord (a b) := by
  rw [mul_sum_ereal _ _ (by norm_num) (by exact EReal.coe_ne_top 256), ← Finset.sum_add_distrib]
  refine Finset.sum_congr rfl fun b _ => ?_
  obtain ⟨e, h1, h2⟩ := ofWord_bytes (a b) (h b)
  rw [← e, EReal.left_distrib_of_nonneg h1 (mul_nonneg (by norm_num) h2), ← mul_assoc, ← mul_assoc, mul_comm 256 (f b)]

theorem and_lt (x : BitVec 32) : (x &&& 65535#32).toNat < 65536 := by
  rw [BitVec.toNat_and]; exact lt_of_le_of_lt Nat.and_le_right (by decide)

theorem shr_lt (x : BitVec 32) : (x >>> 16).toNat < 65536 := by
  rw [BitVec.toNat_ushiftRight, Nat.shiftRight_eq_div_pow]; have := x.isLt; omega

theorem ofBits_256 : Ideal.ofBits .f32 0x43800000#32 = 256 := by
  simp [Ideal.ofBits, Ideal.ieee]
  rw [← EReal.coe_mul]
  norm_num
  rfl

section
variable (s : Vec Ideal S160x256 .bf16) (x1 : Vec Ideal S128x1024 .i32) (r : Fin 160) (l : Fin 1024)

/-- The pooled gradient of row `r` of a scratch at lane `l`: the sum over the 256 bags of the scratch times the bag's count. -/
def pooled : EReal :=
  ∑ b : Fin 128, s (ix2 r ⟨b.val, by omega⟩) * ofWord (x1 (ix2 b l) &&& 65535#32)
    + ∑ b : Fin 128, s (ix2 r ⟨128 + b.val, by omega⟩) * ofWord (x1 (ix2 b l) >>> 16)

theorem small_at : k0_pay14 (countsOf x1) (scratchLd s) (ix2 r l) = pooled s x1 r l := by
  unfold k0_pay14
  pointwise [k0_pay10, k0_pay11, countsOf, scratchLd]
  simp only [shrui_lit _ _ 16 (by decide)]
  rfl

theorem big_at : k0_pay13 (countsOf x1) (scratchLd s) (scratchLd s) (ix2 r l) = pooled s x1 r l := by
  unfold k0_pay13
  pointwise [k0_pay10, k0_pay11, countsOf, scratchLd]
  simp only [shrui_lit _ _ 16 (by decide), shrsi_lit _ _ 8 (by decide), andi_eq]
  change ∑ x : Fin 128, s (ix2 r ⟨x.val, by omega⟩) * ofWord (x1 (ix2 x l) &&& 65535#32 &&& 255#32)
      + ∑ x : Fin 128, s (ix2 r ⟨128 + x.val, by omega⟩) * ofWord (x1 (ix2 x l) >>> 16 &&& 255#32)
      + Ideal.ofBits .f32 0x43800000#32
        * (∑ x : Fin 128, s (ix2 r ⟨x.val, by omega⟩) * ofWord ((x1 (ix2 x l) &&& 65535#32).sshiftRight 8)
          + ∑ x : Fin 128, s (ix2 r ⟨128 + x.val, by omega⟩) * ofWord ((x1 (ix2 x l) >>> 16).sshiftRight 8)) = _
  rw [ofBits_256, EReal.left_distrib_of_nonneg_of_ne_top (by norm_num) (by exact EReal.coe_ne_top 256), add_add_add_comm,
    sum_bytes _ _ fun _ => and_lt _, sum_bytes _ _ fun _ => shr_lt _]
  rfl

end

/-- The block's pooled gradient: at row `r` and lane `l`, that of channel `chan r` from the lane's counts. -/
theorem gradOf_at (x0 : Vec Ideal S2x160x128 .bf16) (x1 : Vec Ideal S128x1024 .i32) (r : Fin 160) (l : Fin 1024) :
    gradOf (scratchOf x0) x1 (ix2 r l)
    = ∑ b : Fin 128, x0 (ix3 0 (chan r) b) * ofWord (x1 (ix2 b l) &&& 65535#32)
      + ∑ b : Fin 128, x0 (ix3 1 (chan r) b) * ofWord (x1 (ix2 b l) >>> 16) := by
  have h : gradOf (scratchOf x0) x1 (ix2 r l) = pooled (scratchOf x0) x1 r l := by
    unfold gradOf
    split
    · exact big_at _ _ _ _
    · exact small_at _ _ _ _
  rw [h]
  unfold pooled
  refine congrArg₂ (· + ·) (Finset.sum_congr rfl fun b _ => ?_) (Finset.sum_congr rfl fun b _ => ?_)
  · rw [scratch_at]
    refine congrArg (x0 · * _) (congrArg₂ (fun i j => ix3 i (chan r) j) (Fin.ext ?_) (Fin.ext ?_))
    · show b.val / 128 = 0; omega
    · show b.val % 128 = b.val; omega
  · rw [scratch_at]
    refine congrArg (x0 · * _) (congrArg₂ (fun i j => ix3 i (chan r) j) (Fin.ext ?_) (Fin.ext ?_))
    · show (128 + b.val) / 128 = 1; omega
    · show (128 + b.val) % 128 = b.val; omega

end Cert.KernelIdeal.Body

end
-- ==== Proof.Weights.lean ====
/- The updated weights of one block: the kernel's four groups of 40 rows are the even and the odd weights of the code bytes, and
   its least weight, its scale and its momentum are the column's. -/
module

public import proofs.«01_k».proof.Proof.Pooled

@[expose] public section

set_option maxRecDepth 16384

noncomputable section

namespace Cert.KernelIdeal.Body

open Cert.KernelIdeal Cert.KernelIdeal.Gen Cert.Adagrad
open Idealize.ShloMosaic

/-! ## Rows and nibbles -/

/-- The code byte of row `t` of groups `2 b` and `2 b + 1`. -/
def row (b : Fin 2) (t : Fin 40) : Fin 80 := ⟨4 * (t.val % 20) + b.val + 2 * (t.val / 20), by omega⟩

/-- Every code byte is a row's. -/
theorem exists_row (r : Fin 80) : (∃ t, row 0 t = r) ∨ ∃ t, row 1 t = r := by
  revert r; decide +kernel

theorem forall_row (p : Fin 80 → Prop) : (∀ r, p r) ↔ (∀ t, p (row 0 t)) ∧ ∀ t, p (row 1 t) := by
  refine ⟨fun h => ⟨fun t => h _, fun t => h _⟩, fun h r => ?_⟩
  rcases exists_row r with ⟨t, rfl⟩ | ⟨t, rfl⟩
  · exact h.1 t
  · exact h.2 t

/-- The low half of a word's byte, cut out directly. -/
theorem low_nibble (w : BitVec 32) (n : Nat) : (w.sshiftRight n &&& 255#32) &&& 15#32 = w.sshiftRight n &&& 15#32 := by
  rw [BitVec.and_assoc]; rfl

/-- The high half of a word's byte, cut out directly. -/
theorem high_nibble (w : BitVec 32) (n : Nat) : (w.sshiftRight n &&& 255#32).sshiftRight 4 = w.sshiftRight (n + 4) &&& 15#32 := by
  have hm : (w.sshiftRight n &&& 255#32).msb = false := by rw [BitVec.msb_and, show (255#32).msb = false from rfl, Bool.and_false]
  rw [BitVec.sshiftRight_eq_of_msb_false hm, BitVec.ushiftRight_and_distrib]
  refine BitVec.eq_of_getLsbD_eq fun i hi => ?_
  simp only [BitVec.getLsbD_and, BitVec.getLsbD_ushiftRight, BitVec.getLsbD_sshiftRight, show (255#32 >>> 4) = 15#32 from rfl]
  by_cases h : i < 4
  · have h1 : n + (4 + i) = n + 4 + i := by omega
    have h2 : ¬ 32 ≤ 4 + i := by omega
    have h3 : ¬ 32 ≤ i := by omega
    simp [h1, h2, h3]
  · have : (15#32).getLsbD i = false := by
      revert i; decide
    simp [this]

/-- The upper half of a word, shifted: the word shifted by 16 more, in its low four bits. -/
theorem upper_nibble (w : BitVec 32) (n : Nat) (hn : n + 20 ≤ 32) : (w >>> 16).sshiftRight n &&& 15#32 = w.sshiftRight (16 + n) &&& 15#32 := by
  refine BitVec.eq_of_getLsbD_eq fun i hi => ?_
  have hm : (w >>> 16).msb = false := by rw [BitVec.msb_ushiftRight]; simp
  simp only [BitVec.getLsbD_and, BitVec.sshiftRight_eq_of_msb_false hm, BitVec.getLsbD_ushiftRight, BitVec.getLsbD_sshiftRight]
  by_cases h : i < 4
  · have h1 : 16 + (n + i) = 16 + n + i := by omega
    have h2 : 16 + n + i < 32 := by omega
    have h3 : ¬ 32 ≤ i := by omega
    simp [h1, h2, h3]
  · have : (15#32).getLsbD i = false := by
      revert i; decide
    simp [this]

/-! ## One lane -/

/-- Lane `l` of a block holds the data of column `C`: the pooled gradient `g` in the kernel's order, the words `x2`. -/
structure Lane (C : Column) (g : FVec Ideal S160x1024 .f32) (x2 : Vec Ideal S24x1024 .i32) (l : Fin 1024) : Prop where
  g : ∀ r, g (ix2 r l) = C.g (chan r)
  code : ∀ r : Fin 80, C.code r = (x2 (ix2 ⟨r.val / 4, by omega⟩ l)).sshiftRight (8 * (r.val % 4)) &&& 255#32
  scale : C.scale = Ideal.ofBits .f32 (x2 (ix2 20 l))
  bias : C.bias = Ideal.ofBits .f32 (x2 (ix2 21 l))
  mom : C.mom = Ideal.ofBits .f32 (x2 (ix2 22 l))

/-- The words the kernel cuts nibbles from: rows 0 to 19 the packed words, rows 20 to 39 their upper halves. -/
theorem word_at (x2 : Vec Ideal S24x1024 .i32) (l : Fin 1024) (t : Fin 40) : k0_pay20 (F := Ideal) (wordsOf x2) (ix2 t l)
    = if h : t.val < 20 then x2 (ix2 ⟨t.val, by omega⟩ l) else IntOp.shrui .vector (x2 (ix2 ⟨t.val - 20, by omega⟩ l)) 16#32 := by
  unfold k0_pay20
  pointwise [wordsOf]

section
variable {C : Column} {g : FVec Ideal S160x1024 .f32} {x2 : Vec Ideal S24x1024 .i32} {l : Fin 1024} (L : Lane C g x2 l)
include L

/-- The word of row `t`: the packed word, or its upper half. -/
theorem code_low (b : Fin 2) (t : Fin 40) (h : t.val < 20) : C.code (row b t) = (x2 (ix2 ⟨t.val, by omega⟩ l)).sshiftRight (8 * b.val) &&& 255#32 := by
  rw [L.code, show (⟨(row b t).val / 4, by omega⟩ : Fin 24) = ⟨t.val, by omega⟩ from Fin.ext (by
      show (4 * (t.val % 20) + b.val + 2 * (t.val / 20)) / 4 = t.val; omega),
    show (row b t).val % 4 = b.val by show (4 * (t.val % 20) + b.val + 2 * (t.val / 20)) % 4 = b.val; omega]

theorem code_high (b : Fin 2) (t : Fin 40) (h : ¬ t.val < 20) :
    C.code (row b t) = (x2 (ix2 ⟨t.val - 20, by omega⟩ l)).sshiftRight (16 + 8 * b.val) &&& 255#32 := by
  rw [L.code, show (⟨(row b t).val / 4, by omega⟩ : Fin 24) = ⟨t.val - 20, by omega⟩ from Fin.ext (by
      show (4 * (t.val % 20) + b.val + 2 * (t.val / 20)) / 4 = t.val - 20; omega),
    show 8 * ((row b t).val % 4) = 16 + 8 * b.val by show 8 * ((4 * (t.val % 20) + b.val + 2 * (t.val / 20)) % 4) = 16 + 8 * b.val; omega]

/-- The low half of the code byte of row `t` of group `2 b`. -/
theorem nibble_even (b : Fin 2) (t : Fin 40) :
    IntOp.andi (IntOp.shrsi .vector (k0_pay20 (F := Ideal) (wordsOf x2) (ix2 t l)) (BitVec.ofNat 32 (8 * b.val))) 15#32
    = C.code (row b t) &&& 15#32 := by
  rw [shrsi_lit _ _ _ (by omega), andi_eq]
  by_cases h : t.val < 20
  · rw [word_at x2 l, dif_pos h, code_low L b t h, low_nibble]
  · rw [word_at x2 l, dif_neg h, code_high L b t h, low_nibble, shrui_lit _ _ 16 (by decide), upper_nibble _ _ (by omega)]

/-- The high half of the code byte of row `t` of group `2 b + 1`. -/
theorem nibble_odd (b : Fin 2) (t : Fin 40) :
    IntOp.andi (IntOp.shrsi .vector (k0_pay20 (F := Ideal) (wordsOf x2) (ix2 t l)) (BitVec.ofNat 32 (8 * b.val + 4))) 15#32
    = (C.code (row b t)).sshiftRight 4 := by
  rw [shrsi_lit _ _ _ (by omega), andi_eq]
  by_cases h : t.val < 20
  · rw [word_at x2 l, dif_pos h, code_low L b t h, high_nibble]
  · rw [word_at x2 l, dif_neg h, code_high L b t h, high_nibble, shrui_lit _ _ 16 (by decide), upper_nibble _ _ (by omega)]
    rfl

/-- The sum of squares does not see the order of the rows. -/
theorem sum_sq : ∑ r, g (ix2 r l) * g (ix2 r l) = ∑ ch, C.g ch * C.g ch := by
  simp only [L.g]
  exact chan_bijective.sum_comp fun ch => C.g ch * C.g ch

theorem momOut_at : momOut g x2 (ix2 0 l) = C.newMom := by
  unfold momOut k0_pay18
  pointwise [k0_pay15, tailOf]
  rw [sum_sq L, ← L.mom]
  rfl

theorem denomOf_at : denomOf g x2 (ix2 0 l) = C.denom := by
  have h : denomOf g x2 (ix2 0 l) = Ideal.sqrt (momOut g x2 (ix2 0 l)) + Ideal.ofBits .f32 0x322BCC77#32 := by
    unfold denomOf k0_pay19
    pointwise
    rfl
  rw [h, momOut_at L]
  rfl

/-- A gradient row of group `2 b + p`. -/
theorem g_row (b p : Fin 2) (t : Fin 40) (i : Fin 160) (hi : i.val = 40 * (2 * b.val + p.val) + t.val) (ch : Fin 160)
    (hc : ch.val = p.val + 2 * (row b t).val) : g (ix2 i l) = C.g ch := by
  rw [L.g]
  refine congrArg C.g (Fin.ext ?_)
  rw [hc]
  show 2 * (4 * (i.val % 40 % 20) + i.val / 40 / 2 + 2 * (i.val % 40 / 20)) + i.val / 40 % 2
    = p.val + 2 * (4 * (t.val % 20) + b.val + 2 * (t.val / 20))
  omega

theorem weight0_at (t : Fin 40) : weight0 g x2 (ix2 t l) = C.even (row 0 t) := by
  unfold weight0 k0_pay22
  pointwise [k0_pay21, k0_pay16, k0_pay17, k0_pay15, tailOf]
  rw [show 0#32 = BitVec.ofNat 32 (8 * (0 : Fin 2).val) from rfl, nibble_even L 0 t, denomOf_at L, ← L.scale, ← L.bias, g_row L 0 0 t _ (by simp) ⟨2 * (row 0 t).val, by omega⟩ (by simp)]
  rfl

theorem weight1_at (t : Fin 40) : weight1 g x2 (ix2 t l) = C.odd (row 0 t) := by
  unfold weight1 k0_pay23
  pointwise [k0_pay21, k0_pay16, k0_pay17, k0_pay15, tailOf]
  rw [show 4#32 = BitVec.ofNat 32 (8 * (0 : Fin 2).val + 4) from rfl, nibble_odd L 0 t, denomOf_at L, ← L.scale, ← L.bias, g_row L 0 1 t _ (by simp) ⟨1 + 2 * (row 0 t).val, by omega⟩ (by simp)]
  rfl

theorem weight2_at (t : Fin 40) : weight2 g x2 (ix2 t l) = C.even (row 1 t) := by
  unfold weight2 k0_pay24
  pointwise [k0_pay21, k0_pay16, k0_pay17, k0_pay15, tailOf]
  rw [show 8#32 = BitVec.ofNat 32 (8 * (1 : Fin 2).val) from rfl, nibble_even L 1 t, denomOf_at L, ← L.scale, ← L.bias, g_row L 1 0 t _ (by simp) ⟨2 * (row 1 t).val, by omega⟩ (by simp)]
  rfl

theorem weight3_at (t : Fin 40) : k0_pay27 (denomOf g x2) (old3 x2) (k0_pay26 g) (ix2 t l) = C.odd (row 1 t) := by
  unfold k0_pay27
  pointwise [old3, k0_pay25, k0_pay26, k0_pay21, k0_pay16, k0_pay17, k0_pay15, tailOf]
  rw [show 12#32 = BitVec.ofNat 32 (8 * (1 : Fin 2).val + 4) from rfl, nibble_odd L 1 t, denomOf_at L, ← L.scale, ← L.bias, g_row L 1 1 t _ (by simp) ⟨1 + 2 * (row 1 t).val, by omega⟩ (by simp)]
  rfl

/-! ## The least weight and the scale -/

theorem biasOut_at : biasOut g x2 (ix2 0 l) = C.rmin := by
  have h : biasOut g x2 (ix2 0 l) = Finset.univ.fold min (Ideal.ofBits .f32 0x7F800000#32) fun t =>
      min (min (min (weight0 g x2 (ix2 t l)) (weight1 g x2 (ix2 t l))) (weight2 g x2 (ix2 t l)))
        (k0_pay27 (denomOf g x2) (old3 x2) (k0_pay26 g) (ix2 t l)) := by
    unfold biasOut k0_pay28
    pointwise
  rw [h]
  simp only [weight0_at L, weight1_at L, weight2_at L, weight3_at L]
  refine eq_of_forall_le_iff fun c => ?_
  simp only [Column.rmin, le_min_iff, Finset.le_fold_min, Finset.mem_univ, true_implies, forall_row fun r => c ≤ C.even r,
    forall_row fun r => c ≤ C.odd r]
  exact ⟨fun ⟨hc, h⟩ => ⟨⟨hc, fun t => (h t).1.1.1, fun t => (h t).1.2⟩, hc, fun t => (h t).1.1.2, fun t => (h t).2⟩,
    fun ⟨⟨hc, h0, h2⟩, _, h1, h3⟩ => ⟨hc, fun t => ⟨⟨⟨h0 t, h1 t⟩, h2 t⟩, h3 t⟩⟩⟩

theorem max_at : (Finset.univ.fold max (Ideal.ofBits .f32 0xFF800000#32) fun t =>
      max (max (max (weight0 g x2 (ix2 t l)) (weight1 g x2 (ix2 t l))) (weight2 g x2 (ix2 t l)))
        (k0_pay27 (denomOf g x2) (old3 x2) (k0_pay26 g) (ix2 t l))) = C.rmax := by
  simp only [weight0_at L, weight1_at L, weight2_at L, weight3_at L]
  refine eq_of_forall_ge_iff fun c => ?_
  simp only [Column.rmax, max_le_iff, Finset.fold_max_le, Finset.mem_univ, true_implies, forall_row fun r => C.even r ≤ c,
    forall_row fun r => C.odd r ≤ c]
  exact ⟨fun ⟨hc, h⟩ => ⟨⟨hc, fun t => (h t).1.1.1, fun t => (h t).1.2⟩, hc, fun t => (h t).1.1.2, fun t => (h t).2⟩,
    fun ⟨⟨hc, h0, h2⟩, _, h1, h3⟩ => ⟨hc, fun t => ⟨⟨⟨h0 t, h1 t⟩, h2 t⟩, h3 t⟩⟩⟩

theorem scaleOut_at : scaleOut g x2 (ix2 0 l) = C.newScale := by
  have h : scaleOut g x2 (ix2 0 l) = Scalar.select (Ideal.cmp .oeq (Finset.univ.fold max (Ideal.ofBits .f32 0xFF800000#32) fun t =>
        max (max (max (weight0 g x2 (ix2 t l)) (weight1 g x2 (ix2 t l))) (weight2 g x2 (ix2 t l)))
          (k0_pay27 (denomOf g x2) (old3 x2) (k0_pay26 g) (ix2 t l))) (biasOut g x2 (ix2 0 l))) (Ideal.ofBits .f32 0x3F800000#32)
      (Ideal.div ((Finset.univ.fold max (Ideal.ofBits .f32 0xFF800000#32) fun t =>
        max (max (max (weight0 g x2 (ix2 t l)) (weight1 g x2 (ix2 t l))) (weight2 g x2 (ix2 t l)))
          (k0_pay27 (denomOf g x2) (old3 x2) (k0_pay26 g) (ix2 t l))) - biasOut g x2 (ix2 0 l)) (Ideal.ofBits .f32 0x41700000#32)) := by
    unfold scaleOut biasOut k0_pay29
    pointwise
  rw [h, max_at L, biasOut_at L]
  rfl

end

end Cert.KernelIdeal.Body

end
-- ==== Proof.Nibbles.lean ====
/- Whole numbers from 0 to 15 among the extended reals, two and four of them packed into a word, and the bytes of such a word. -/
module

public import proofs.«01_k».proof.Proof.Spec
public import Idealize.ShloMosaic.Lib.BitcastFour

@[expose] public section

noncomputable section

namespace Cert.Adagrad

open Idealize.ShloMosaic

theorem ofBits_15 : Ideal.ofBits .f32 0x41700000#32 = ((15 : ℝ) : EReal) := by
  simp [Ideal.ofBits, Ideal.ieee]; rw [← EReal.coe_mul]; norm_num

theorem ofBits_16 : Ideal.ofBits .f32 0x41800000#32 = ((16 : ℝ) : EReal) := by
  simp [Ideal.ofBits, Ideal.ieee]; rw [← EReal.coe_mul]; norm_num

theorem ofBits_256' : Ideal.ofBits .f32 0x43800000#32 = ((256 : ℝ) : EReal) := by
  simp [Ideal.ofBits, Ideal.ieee]; rw [← EReal.coe_mul]; norm_num

/-- A rounded value kept in 0 to 15 is a whole number. -/
theorem clamp_nat (x : EReal) : ∃ n : ℕ, n ≤ 15 ∧
    min (Ideal.ofBits .f32 0x41700000#32) (max 0 (Ideal.liftRound Ideal.roundHalfEven x)) = ((n : ℝ) : EReal) := by
  rw [ofBits_15]
  induction x using EReal.rec with
  | bot =>
    refine ⟨0, by omega, ?_⟩
    show min ((15 : ℝ) : EReal) (max 0 ⊥) = _
    rw [max_eq_left bot_le, min_eq_right (by exact_mod_cast (by norm_num : (0 : ℝ) ≤ 15))]
    simp
  | top =>
    refine ⟨15, le_rfl, ?_⟩
    show min ((15 : ℝ) : EReal) (max 0 ⊤) = _
    rw [max_eq_right le_top, min_eq_left le_top]
    simp
  | coe r =>
    refine ⟨(min 15 (max 0 (Ideal.roundHalfEven r))).toNat, by omega, ?_⟩
    show min ((15 : ℝ) : EReal) (max 0 ((Ideal.roundHalfEven r : ℝ) : EReal)) = _
    generalize Ideal.roundHalfEven r = z
    have h : (((min 15 (max 0 z)).toNat : ℕ) : ℝ) = ((min 15 (max 0 z) : ℤ) : ℝ) := by
      have : (((min 15 (max 0 z)).toNat : ℕ) : ℤ) = min 15 (max 0 z) := Int.toNat_of_nonneg (by omega)
      exact_mod_cast this
    have hm : Monotone (fun x : ℝ => (x : EReal)) := EReal.coe_strictMono.monotone
    rw [h, Int.cast_min, Int.cast_max, Int.cast_zero, ← EReal.coe_zero]
    exact ((congrArg (min ((15 : ℝ) : EReal)) (hm.map_max (a := 0) (b := (z : ℝ))).symm).trans (hm.map_min (a := 15) (b := max 0 (z : ℝ))).symm).trans
      (by norm_num)

theorem Column.quant_nat (C : Column) (w : EReal) : ∃ n : ℕ, n ≤ 15 ∧ C.quant w = ((n : ℝ) : EReal) := clamp_nat _

/-- A whole number below `2 ^ 31` read as a word. -/
theorem fptosi_nat (n : ℕ) (hn : n < 2147483648) : Ideal.fptosi 32 ((n : ℝ) : EReal) = BitVec.ofNat 32 n := by
  unfold Ideal.fptosi
  rw [Ideal.toIntClamped_coe, if_pos (Nat.cast_nonneg n), Int.floor_natCast]
  rw [show max (-((2 ^ (32 - 1) : Nat) : Int)) (min (((2 ^ (32 - 1) : Nat) : Int) - 1) (n : Int)) = (n : Int) by omega]
  exact BitVec.ofInt_natCast 32 n

/-- Four whole numbers, each a digit in base 16. -/
theorem four_nat (a b c d : ℕ) :
    ((a : ℝ) : EReal) + ((16 : ℝ) : EReal) * ((b : ℝ) : EReal)
      + ((256 : ℝ) : EReal) * (((c : ℝ) : EReal) + ((16 : ℝ) : EReal) * ((d : ℝ) : EReal))
    = (((a + 16 * b + 256 * (c + 16 * d) : ℕ) : ℝ) : EReal) := by
  push_cast
  rfl

/-- The code byte from its two halves. -/
theorem byte_nat (a b : ℕ) (ha : a ≤ 15) (hb : b ≤ 15) :
    (Ideal.fptosi 32 ((a : ℝ) : EReal) + Ideal.fptosi 32 ((b : ℝ) : EReal) * 16#32).setWidth 8 = BitVec.ofNat 8 (a + 16 * b) := by
  rw [fptosi_nat a (by omega), fptosi_nat b (by omega)]
  apply BitVec.eq_of_toNat_eq
  simp only [BitVec.toNat_setWidth, BitVec.toNat_add, BitVec.toNat_mul, BitVec.toNat_ofNat]
  omega

/-- The four bytes of a word joined from two halves of two bytes each. -/
theorem byte_of_word (B : Fin 4 → ℕ) (hB : ∀ q, B q < 256) (q : Fin 4) :
    ((BitVec.ofNat 32 (B 0 + 256 * B 1) ||| BitVec.ofNat 32 (B 2 + 256 * B 3) <<< 16) >>> (8 * q.val)).setWidth 8
      = BitVec.ofNat 8 (B q) := by
  have h0 := hB 0; have h1 := hB 1; have h2 := hB 2; have h3 := hB 3
  have hw : BitVec.ofNat 32 (B 0 + 256 * B 1) ||| BitVec.ofNat 32 (B 2 + 256 * B 3) <<< 16
      = BitVec.ofNat 32 (B 0 + 256 * B 1 + 65536 * (B 2 + 256 * B 3)) := by
    apply BitVec.eq_of_toNat_eq
    simp only [BitVec.toNat_or, BitVec.toNat_shiftLeft, BitVec.toNat_ofNat]
    rw [Nat.mod_eq_of_lt (by omega : B 0 + 256 * B 1 < 2 ^ 32), Nat.mod_eq_of_lt (by omega : B 2 + 256 * B 3 < 2 ^ 32),
      Nat.mod_eq_of_lt (by rw [Nat.shiftLeft_eq]; omega), Nat.mod_eq_of_lt (by omega), Nat.or_comm,
      ← Nat.shiftLeft_add_eq_or_of_lt (by omega : B 0 + 256 * B 1 < 2 ^ 16), Nat.shiftLeft_eq]
    omega
  rw [hw]
  apply BitVec.eq_of_toNat_eq
  simp only [BitVec.toNat_setWidth, BitVec.toNat_ushiftRight, BitVec.toNat_ofNat, Nat.shiftRight_eq_div_pow]
  match q with
  | 0 => show (B 0 + 256 * B 1 + 65536 * (B 2 + 256 * B 3)) % 2 ^ 32 / 2 ^ 0 % 2 ^ 8 = B 0 % 2 ^ 8; omega
  | 1 => show (B 0 + 256 * B 1 + 65536 * (B 2 + 256 * B 3)) % 2 ^ 32 / 2 ^ 8 % 2 ^ 8 = B 1 % 2 ^ 8; omega
  | 2 => show (B 0 + 256 * B 1 + 65536 * (B 2 + 256 * B 3)) % 2 ^ 32 / 2 ^ 16 % 2 ^ 8 = B 2 % 2 ^ 8; omega
  | 3 => show (B 0 + 256 * B 1 + 65536 * (B 2 + 256 * B 3)) % 2 ^ 32 / 2 ^ 24 % 2 ^ 8 = B 3 % 2 ^ 8; omega

/-- Words read as bytes: row `4 a + q` of a lane is byte `q` of the word at row `a`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = (x (ix2 a l) >>> (8 * (p.val % 4))).setWidth 8 := by
  refine BitVec.eq_of_getLsbD_eq fun q hq => ?_
  rw [bitcast_getLsbD x h _ q hq (by decide)]
  have er : (⟨2, ![R, n]⟩ : Shape).row (ix2 p l) = p.val := rfl
  have e1 : ((⟨2, ![R, n]⟩ : Shape).row (ix2 p l) * 8 + q) / 32 = a.val := by rw [er]; omega
  have e2 : ((⟨2, ![R, n]⟩ : Shape).row (ix2 p l) * 8 + q) % 32 = 8 * (p.val % 4) + q := by rw [er]; omega
  rw [e2, BitVec.getLsbD_setWidth, BitVec.getLsbD_ushiftRight]
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

end Cert.Adagrad

end
-- ==== Proof.Packing.lean ====
/- The new codes of one block: the four groups of quantised weights packed into words, and the words read as the column's code
   bytes. -/
module

public import proofs.«01_k».proof.Proof.Weights
public import proofs.«01_k».proof.Proof.Nibbles

@[expose] public section

set_option maxRecDepth 16384

noncomputable section

namespace Cert.KernelIdeal.Body

open Cert.KernelIdeal Cert.KernelIdeal.Gen Cert.Adagrad
open Idealize.ShloMosaic

/-- The two bytes of row `t` as one float: four quantised weights in base 16. -/
def pair (w3 : FVec Ideal S40x1024 .f32) (s : FVec Ideal S1x1024 .f32) (q0 q1 q2 lo : FVec Ideal S40x1024 .f32) : FVec Ideal S40x1024 .f32 :=
  addf (addf q0 (mulf (broadcast S40x1024 (Scalar.ofBits .f32 0x41800000#32)) q1))
    (mulf (broadcast S40x1024 (Scalar.ofBits .f32 0x43800000#32)) (addf q2 (mulf (broadcast S40x1024 (Scalar.ofBits .f32 0x41800000#32))
      (minimumf (broadcast S40x1024 (Scalar.ofBits .f32 0x41700000#32)) (maximumf (broadcast S40x1024 (Scalar.ofBits .f32 0x00000000#32))
        (roundeven (divf (subf w3 lo) (broadcastTo S40x1024 s broadcasts_S1x1024_S40x1024))))))))

/-- The words: rows 0 to 19 in the low halves, rows 20 to 39 in the high halves. -/
def joined (P : IVec S40x1024 32) : IVec S20x1024 32 :=
  ori (extractStridedSlice S20x1024 ![0, 0] P slices_S40x1024_o0_0_S20x1024)
    (shli (extractStridedSlice S20x1024 ![20, 0] P slices_S40x1024_o20_0_S20x1024) (broadcast S20x1024 16#32))

theorem pay1_eq (w3 : FVec Ideal S40x1024 .f32) (s : FVec Ideal S1x1024 .f32) (q0 q1 q2 lo : FVec Ideal S40x1024 .f32) :
    k0_pay1 w3 s q0 q1 q2 lo = bitcast S80x1024 8 (joined (fptosi 32 (pair w3 s q0 q1 q2 lo))) bitcasts_S20x1024_w32_S80x1024_w8 := rfl

theorem joined_at (P : IVec S40x1024 32) (j : Fin 20) (l : Fin 1024) :
    joined P (ix2 j l) = P (ix2 ⟨j.val, by omega⟩ l) ||| P (ix2 ⟨20 + j.val, by omega⟩ l) <<< 16 := by
  have h : joined P (ix2 j l) = IntOp.ori (P (ix2 ⟨j.val, by omega⟩ l)) (IntOp.shli .vector (P (ix2 ⟨20 + j.val, by omega⟩ l)) 16#32) := by
    unfold joined
    pointwise
  rw [h, ori_eq, shli_lit _ _ 16 (by decide)]

theorem pair_at (w3 : FVec Ideal S40x1024 .f32) (s : FVec Ideal S1x1024 .f32) (q0 q1 q2 lo : FVec Ideal S40x1024 .f32) (t : Fin 40) (l : Fin 1024) :
    pair w3 s q0 q1 q2 lo (ix2 t l) = q0 (ix2 t l) + Ideal.ofBits .f32 0x41800000#32 * q1 (ix2 t l)
      + Ideal.ofBits .f32 0x43800000#32 * (q2 (ix2 t l) + Ideal.ofBits .f32 0x41800000#32 *
        min (Ideal.ofBits .f32 0x41700000#32) (max 0 (Ideal.liftRound Ideal.roundHalfEven
          (Ideal.div (w3 (ix2 t l) - lo (ix2 t l)) (s (ix2 0 l)))))) := by
  unfold pair
  pointwise

section
variable {C : Column} {g : FVec Ideal S160x1024 .f32} {x2 : Vec Ideal S24x1024 .i32} {l : Fin 1024} (L : Lane C g x2 l)
include L

theorem quant0_at (t : Fin 40) : k0_pay30 (denomOf g x2) (weight0 g x2) (weight1 g x2) (weight2 g x2) (old3 x2) (k0_pay26 g) (ix2 t l)
    = C.quant (C.even (row 0 t)) := by
  have h : k0_pay30 (denomOf g x2) (weight0 g x2) (weight1 g x2) (weight2 g x2) (old3 x2) (k0_pay26 g) (ix2 t l)
      = min (Ideal.ofBits .f32 0x41700000#32) (max 0 (Ideal.liftRound Ideal.roundHalfEven
          (Ideal.div (weight0 g x2 (ix2 t l) - biasOut g x2 (ix2 0 l)) (scaleOut g x2 (ix2 0 l))))) := by
    unfold k0_pay30 biasOut scaleOut
    pointwise
  rw [h, weight0_at L, biasOut_at L, scaleOut_at L]
  rfl

theorem quant1_at (t : Fin 40) : k0_pay31 (denomOf g x2) (weight0 g x2) (weight1 g x2) (weight2 g x2) (old3 x2) (k0_pay26 g) (ix2 t l)
    = C.quant (C.odd (row 0 t)) := by
  have h : k0_pay31 (denomOf g x2) (weight0 g x2) (weight1 g x2) (weight2 g x2) (old3 x2) (k0_pay26 g) (ix2 t l)
      = min (Ideal.ofBits .f32 0x41700000#32) (max 0 (Ideal.liftRound Ideal.roundHalfEven
          (Ideal.div (weight1 g x2 (ix2 t l) - biasOut g x2 (ix2 0 l)) (scaleOut g x2 (ix2 0 l))))) := by
    unfold k0_pay31 biasOut scaleOut
    pointwise
  rw [h, weight1_at L, biasOut_at L, scaleOut_at L]
  rfl

theorem quant2_at (t : Fin 40) : k0_pay32 (denomOf g x2) (weight0 g x2) (weight1 g x2) (weight2 g x2) (old3 x2) (k0_pay26 g) (ix2 t l)
    = C.quant (C.even (row 1 t)) := by
  have h : k0_pay32 (denomOf g x2) (weight0 g x2) (weight1 g x2) (weight2 g x2) (old3 x2) (k0_pay26 g) (ix2 t l)
      = min (Ideal.ofBits .f32 0x41700000#32) (max 0 (Ideal.liftRound Ideal.roundHalfEven
          (Ideal.div (weight2 g x2 (ix2 t l) - biasOut g x2 (ix2 0 l)) (scaleOut g x2 (ix2 0 l))))) := by
    unfold k0_pay32 biasOut scaleOut
    pointwise
  rw [h, weight2_at L, biasOut_at L, scaleOut_at L]
  rfl

theorem least_at (t : Fin 40) : k0_pay33 (denomOf g x2) (weight0 g x2) (weight1 g x2) (weight2 g x2) (old3 x2) (k0_pay26 g) (ix2 t l)
    = C.rmin := by
  have h : k0_pay33 (denomOf g x2) (weight0 g x2) (weight1 g x2) (weight2 g x2) (old3 x2) (k0_pay26 g) (ix2 t l)
      = biasOut g x2 (ix2 0 l) := by
    unfold k0_pay33 biasOut
    pointwise
  rw [h, biasOut_at L]

/-- The float of row `t` is the four quantised weights in base 16. -/
theorem pairOf_at (t : Fin 40) :
    pair (k0_pay27 (denomOf g x2) (old3 x2) (k0_pay26 g)) (scaleOut g x2)
      (k0_pay30 (denomOf g x2) (weight0 g x2) (weight1 g x2) (weight2 g x2) (old3 x2) (k0_pay26 g))
      (k0_pay31 (denomOf g x2) (weight0 g x2) (weight1 g x2) (weight2 g x2) (old3 x2) (k0_pay26 g))
      (k0_pay32 (denomOf g x2) (weight0 g x2) (weight1 g x2) (weight2 g x2) (old3 x2) (k0_pay26 g))
      (k0_pay33 (denomOf g x2) (weight0 g x2) (weight1 g x2) (weight2 g x2) (old3 x2) (k0_pay26 g)) (ix2 t l)
    = C.quant (C.even (row 0 t)) + ((16 : ℝ) : EReal) * C.quant (C.odd (row 0 t))
      + ((256 : ℝ) : EReal) * (C.quant (C.even (row 1 t)) + ((16 : ℝ) : EReal) * C.quant (C.odd (row 1 t))) := by
  rw [pair_at, quant0_at L, quant1_at L, quant2_at L, least_at L, weight3_at L, scaleOut_at L, ofBits_16, ofBits_256']
  rfl

/-- The block's codes are the column's code bytes. -/
theorem codesOut_at (r : Fin 80) : codesOut g x2 (ix2 r l) = C.byte r := by
  choose ne he hqe using fun r => C.quant_nat (C.even r)
  choose no ho hqo using fun r => C.quant_nat (C.odd r)
  have hword : ∀ t : Fin 40, fptosi 32 (pair (k0_pay27 (denomOf g x2) (old3 x2) (k0_pay26 g)) (scaleOut g x2)
      (k0_pay30 (denomOf g x2) (weight0 g x2) (weight1 g x2) (weight2 g x2) (old3 x2) (k0_pay26 g))
      (k0_pay31 (denomOf g x2) (weight0 g x2) (weight1 g x2) (weight2 g x2) (old3 x2) (k0_pay26 g))
      (k0_pay32 (denomOf g x2) (weight0 g x2) (weight1 g x2) (weight2 g x2) (old3 x2) (k0_pay26 g))
      (k0_pay33 (denomOf g x2) (weight0 g x2) (weight1 g x2) (weight2 g x2) (old3 x2) (k0_pay26 g))) (ix2 t l)
      = BitVec.ofNat 32 ((ne (row 0 t) + 16 * no (row 0 t)) + 256 * (ne (row 1 t) + 16 * no (row 1 t))) := by
    intro t
    show Ideal.fptosi 32 (pair _ _ _ _ _ _ (ix2 t l)) = _
    rw [pairOf_at L, hqe, hqo, hqe, hqo, four_nat]
    have h1 := he (row 0 t); have h2 := ho (row 0 t); have h3 := he (row 1 t); have h4 := ho (row 1 t)
    exact fptosi_nat _ (by omega)
  unfold codesOut
  rw [pay1_eq, bitcast_32_8_ix2 _ _ r l ⟨r.val / 4, by omega⟩ rfl, joined_at, hword, hword]
  unfold Column.byte
  rw [hqe, hqo, byte_nat _ _ (he r) (ho r)]
  have hb := byte_of_word (fun q => ne ⟨4 * (r.val / 4) + q.val, by omega⟩ + 16 * no ⟨4 * (r.val / 4) + q.val, by omega⟩)
    (fun q => by have := he ⟨4 * (r.val / 4) + q.val, by omega⟩; have := ho ⟨4 * (r.val / 4) + q.val, by omega⟩; omega)
    ⟨r.val % 4, by omega⟩
  have e00 : row 0 ⟨r.val / 4, by omega⟩ = ⟨4 * (r.val / 4) + 0, by omega⟩ := Fin.ext (by
    show 4 * (r.val / 4 % 20) + 0 + 2 * (r.val / 4 / 20) = 4 * (r.val / 4) + 0; omega)
  have e10 : row 1 ⟨r.val / 4, by omega⟩ = ⟨4 * (r.val / 4) + 1, by omega⟩ := Fin.ext (by
    show 4 * (r.val / 4 % 20) + 1 + 2 * (r.val / 4 / 20) = 4 * (r.val / 4) + 1; omega)
  have e01 : row 0 ⟨20 + r.val / 4, by omega⟩ = ⟨4 * (r.val / 4) + 2, by omega⟩ := Fin.ext (by
    show 4 * ((20 + r.val / 4) % 20) + 0 + 2 * ((20 + r.val / 4) / 20) = 4 * (r.val / 4) + 2; omega)
  have e11 : row 1 ⟨20 + r.val / 4, by omega⟩ = ⟨4 * (r.val / 4) + 3, by omega⟩ := Fin.ext (by
    show 4 * ((20 + r.val / 4) % 20) + 1 + 2 * ((20 + r.val / 4) / 20) = 4 * (r.val / 4) + 3; omega)
  have er : (⟨4 * (r.val / 4) + r.val % 4, by omega⟩ : Fin 80) = r := Fin.ext (by show 4 * (r.val / 4) + r.val % 4 = r.val; omega)
  dsimp only at hb
  rw [er] at hb
  rw [← hb]
  show _ = ((BitVec.ofNat 32 ((ne ⟨4 * (r.val / 4) + 0, _⟩ + 16 * no ⟨4 * (r.val / 4) + 0, _⟩)
      + 256 * (ne ⟨4 * (r.val / 4) + 1, _⟩ + 16 * no ⟨4 * (r.val / 4) + 1, _⟩))
    ||| BitVec.ofNat 32 ((ne ⟨4 * (r.val / 4) + 2, _⟩ + 16 * no ⟨4 * (r.val / 4) + 2, _⟩)
      + 256 * (ne ⟨4 * (r.val / 4) + 3, _⟩ + 16 * no ⟨4 * (r.val / 4) + 3, _⟩)) <<< 16) >>> (8 * (r.val % 4))).setWidth 8
  rw [← e00, ← e10, ← e01, ← e11]

end

end Cert.KernelIdeal.Body

end
-- ==== Proof.KernelValue.lean ====
/- The kernel's result arrays: every block of the launch is a block of columns, so the four arrays hold each column's code
   bytes, scale, bias and momentum. -/
module

public import proofs.«01_k».proof.Proof.Launch
public import proofs.«01_k».proof.Proof.Packing
public import Idealize.ShloMosaic.Lib.Pipeline.ValueKit

@[expose] public section

set_option maxRecDepth 16384

noncomputable section

namespace Cert.KernelIdeal.Body

open Cert.KernelIdeal Cert.KernelIdeal.Gen Cert.Adagrad
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The column of table row `u`, from the arguments of device `c`. -/
def col (u : Fin 32768) : Column :=
  column (m ((c.tc : Thread nD τ).loc main_arg0)) (m ((c.tc : Thread nD τ).loc main_arg1)) (m ((c.tc : Thread nD τ).loc main_arg2)) u

/-- The table row of lane `l` of block `t`. -/
def rowOf (t : Fin cfg0.N) (l : Fin 1024) : Fin 32768 :=
  ⟨t.val * 1024 + l.val, by have h : t.val < 32 := Nat.lt_of_lt_of_eq t.isLt N_0; omega⟩

/-! ## The blocks the body reads -/

theorem index0 : ∀ t : Fin cfg0.N, win0_0.index t = ![0, 0, 0] := (by decide +kernel : ∀ t : Fin grid0.N, win0_0.index t = ![0, 0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])
theorem index4 : ∀ t : Fin cfg0.N, win0_4.index t = ![0, t.val] := (by decide +kernel : ∀ t : Fin grid0.N, win0_4.index t = ![0, t.val])
theorem index5 : ∀ t : Fin cfg0.N, win0_5.index t = ![0, t.val] := (by decide +kernel : ∀ t : Fin grid0.N, win0_5.index t = ![0, t.val])
theorem index6 : ∀ t : Fin cfg0.N, win0_6.index t = ![0, t.val] := (by decide +kernel : ∀ t : Fin grid0.N, win0_6.index t = ![0, t.val])

/-- The launch finds the transposed gradient in its first operand. -/
theorem V_main_v0 : V m c main_v0 = transpose S2x160x128 [0, 2, 1] (m ((c.tc : Thread nD τ).loc main_arg0)) transposes_S2x128x160_S2x160x128_0_2_1 := rfl

theorem grad_blk (h : Fin 2) (ch : Fin 160) (b : Fin 128) (t : Fin cfg0.N) :
    iblk m c 0 t (ix3 h ch b) = m ((c.tc : Thread nD τ).loc main_arg0) (ix3 h b ch) := by
  have e : ((cfg0.win 0).blk t).view.emb (ix3 h ch b) = (ix3 h ch b : S2x160x128.Idx) := by blk_ext [index0]
  show V m c main_v0 (((cfg0.win 0).blk t).view.emb (ix3 h ch b)) = _
  rw [e, V_main_v0]
  pointwise

theorem counts_blk (b : Fin 128) (t : Fin cfg0.N) (l : Fin 1024) :
    iblk m c 1 t (ix2 b l) = m ((c.tc : Thread nD τ).loc main_arg1) (ix2 b (rowOf t l)) := by
  have e : ((cfg0.win 1).blk t).view.emb (ix2 b l) = (ix2 b (rowOf t l) : S128x32768.Idx) := by blk_ext [index1, rowOf]
  show V m c main_arg1 (((cfg0.win 1).blk t).view.emb (ix2 b l)) = _
  rw [e, V_main_arg1]

theorem words_blk (r : Fin 24) (t : Fin cfg0.N) (l : Fin 1024) :
    iblk m c 2 t (ix2 r l) = m ((c.tc : Thread nD τ).loc main_arg2) (ix2 r (rowOf t l)) := by
  have e : ((cfg0.win 2).blk t).view.emb (ix2 r l) = (ix2 r (rowOf t l) : S24x32768.Idx) := by blk_ext [index2, rowOf]
  show V m c main_arg2 (((cfg0.win 2).blk t).view.emb (ix2 r l)) = _
  rw [e, V_main_arg2]

/-- Lane `l` of block `t` holds the data of its table row's column. -/
theorem lane (t : Fin cfg0.N) (l : Fin 1024) : Lane (col m c (rowOf t l)) (gradAt m c t) (iblk m c 2 t) l where
  g r := by
    rw [gradAt_eq, scratchAt, gradOf_at]
    simp only [grad_blk, counts_blk]
    rfl
  code r := by rw [words_blk]; rfl
  scale := by rw [words_blk]; rfl
  bias := by rw [words_blk]; rfl
  mom := by rw [words_blk]; rfl

/-! ## The arrays -/

/-- The new code bytes of the table. -/
def allCodes : S80x32768.Idx → BitVec 8 := fun i => (col m c (i 1)).byte (i 0)

/-- The new scales of the table. -/
def allScale : S1x32768.Idx → EReal := fun i => (col m c (i 1)).newScale

/-- The new biases of the table. -/
def allBias : S1x32768.Idx → EReal := fun i => (col m c (i 1)).rmin

/-- The new momenta of the table. -/
def allMom : S1x32768.Idx → EReal := fun i => (col m c (i 1)).newMom

theorem final3 : (dats m 0 c).arrAt 3 cfg0.N = allCodes m c := by
  refine (dats m 0 c).arrAt_eq_of_covers 3 (allCodes m c) (by decide +kernel) fun t hf y => ?_
  obtain ⟨r, l, rfl⟩ : ∃ (r : Fin 80) (l : Fin 1024), y = (ix2 r l : S80x1024.Idx) := ⟨y 0, y 1, eq_ix2 y⟩
  have e : ((cfg0.win 3).blk t).view.emb (ix2 r l) = (ix2 r (rowOf t l) : S80x32768.Idx) := by blk_ext [index3, rowOf]
  rw [e]
  show (dats m 0 c).after 3 t (ix2 r l) = allCodes m c (ix2 r (rowOf t l))
  rw [after3]
  exact codesOut_at (lane m c t l) r

theorem final4 : (dats m 0 c).arrAt 4 cfg0.N = allScale m c := by
  refine (dats m 0 c).arrAt_eq_of_covers 4 (allScale m c) (by decide +kernel) fun t hf y => ?_
  obtain ⟨r, l, rfl⟩ : ∃ (r : Fin 1) (l : Fin 1024), y = (ix2 r l : S1x1024.Idx) := ⟨y 0, y 1, eq_ix2 y⟩
  obtain rfl : r = 0 := Subsingleton.elim _ _
  have e : ((cfg0.win 4).blk t).view.emb (ix2 0 l) = (ix2 0 (rowOf t l) : S1x32768.Idx) := by blk_ext [index4, rowOf]
  rw [e]
  show (dats m 0 c).after 4 t (ix2 0 l) = allScale m c (ix2 0 (rowOf t l))
  rw [after4]
  exact scaleOut_at (lane m c t l)

theorem final5 : (dats m 0 c).arrAt 5 cfg0.N = allBias m c := by
  refine (dats m 0 c).arrAt_eq_of_covers 5 (allBias m c) (by decide +kernel) fun t hf y => ?_
  obtain ⟨r, l, rfl⟩ : ∃ (r : Fin 1) (l : Fin 1024), y = (ix2 r l : S1x1024.Idx) := ⟨y 0, y 1, eq_ix2 y⟩
  obtain rfl : r = 0 := Subsingleton.elim _ _
  have e : ((cfg0.win 5).blk t).view.emb (ix2 0 l) = (ix2 0 (rowOf t l) : S1x32768.Idx) := by blk_ext [index5, rowOf]
  rw [e]
  show (dats m 0 c).after 5 t (ix2 0 l) = allBias m c (ix2 0 (rowOf t l))
  rw [after5]
  exact biasOut_at (lane m c t l)

theorem final6 : (dats m 0 c).arrAt 6 cfg0.N = allMom m c := by
  refine (dats m 0 c).arrAt_eq_of_covers 6 (allMom m c) (by decide +kernel) fun t hf y => ?_
  obtain ⟨r, l, rfl⟩ : ∃ (r : Fin 1) (l : Fin 1024), y = (ix2 r l : S1x1024.Idx) := ⟨y 0, y 1, eq_ix2 y⟩
  obtain rfl : r = 0 := Subsingleton.elim _ _
  have e : ((cfg0.win 6).blk t).view.emb (ix2 0 l) = (ix2 0 (rowOf t l) : S1x32768.Idx) := by blk_ext [index6, rowOf]
  rw [e]
  show (dats m 0 c).after 6 t (ix2 0 l) = allMom m c (ix2 0 (rowOf t l))
  rw [after6]
  exact momOut_at (lane m c t l)

/-- The kernel runs: it ends with each column's new code bytes, scale, bias and momentum in its results, and the arguments unchanged. -/
theorem run : θ_run defs (onTc (τ := τ) (main (F := Ideal))) ⟨m, fun _ => 0, ρ⟩ fun r => ∀ c : Dev nD,
      r.2.mem ((c.tc : Thread nD τ).loc main_v1_0) = allCodes m c
      ∧ r.2.mem ((c.tc : Thread nD τ).loc main_v1_1) = allScale m c
      ∧ r.2.mem ((c.tc : Thread nD τ).loc main_v1_2) = allBias m c
      ∧ r.2.mem ((c.tc : Thread nD τ).loc main_v1_3) = allMom m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final3 m c), ((h.1 c).1 4).trans (final4 m c), ((h.1 c).1 5).trans (final5 m c),
    ((h.1 c).1 6).trans (final6 m c), h.2.1 c⟩) (θ_run_and (run_main m ρ) (frame m ρ))

end Cert.KernelIdeal.Body

end
-- ==== Proof.RefArrays.lean ====
/- The reference's arrays, one name each, as its operations compute them from the three arguments; and the reference's results
   as four of them. -/
module

public import proofs.«01_k».proof.Proof.Gen.ReferenceIdeal.Run

@[expose] public section

set_option maxRecDepth 16384

noncomputable section

namespace Cert.ReferenceIdeal.Arrays

open Cert.ReferenceIdeal Cert.ReferenceIdeal.Gen
open Idealize.ShloMosaic Idealize.ShloMosaic.TcCoe Idealize.SL.Sem

variable {F : FTy → Type} [FloatOps F]
variable (x0 : Vec F S2x128x160 .bf16) (x1 : Vec F S128x32768 .i32) (x2 : Vec F S24x32768 .i32)

/-- The counts, one row a bag. -/
def counts : IVec S256x32768 32 :=
  concatenate S256x32768 0 [⟨S128x32768, (andi x1 (broadcastInDim S128x32768 ![] bcast_S_S128x32768 (constantI S_ 32 65535#32)))⟩, ⟨S128x32768, (Host.shrui x1 (broadcastInDim S128x32768 ![] bcast_S_S128x32768 (constantI S_ 32 16#32)))⟩] concatenates_S128x32768_S128x32768_S256x32768_d0

/-- The pooled gradient, one row a channel. -/
def grad : FVec F S160x32768 .f32 :=
  Host.dotGeneral dot_S160x256_S256x32768_S160x32768_1_0_0_1_n_n none (transpose S160x256 [1, 0] (extf .f32 (shapeCast _ x0 shapeCasts_S2x128x160_S256x160) bitsLt_bf16_f32) transposes_S256x160_S160x256_1_0) (sitofp .f32 (counts (F := F) x1))

/-- The code bytes as words. -/
def codes : IVec S80x32768 32 :=
  shapeCast _ (andi (Host.shrsi (broadcastInDim S20x4x32768 ![0, 1, 2] bcast_S20x1x32768_S20x4x32768_0_1_2 (broadcastInDim S20x1x32768 ![0, 2] bcast_S20x32768_S20x1x32768_0_2 (extractStridedSlice S20x32768 ![0, 0] x2 slices_S24x32768_S20x32768_0_0))) (broadcastInDim S20x4x32768 ![0, 1, 2] bcast_S1x4x1_S20x4x32768_0_1_2 (broadcastInDim S1x4x1 ![1] bcast_S4_S1x4x1_1 (muli (broadcastInDim S4 ![] bcast_S_S4 (constantI S_ 32 8#32)) (iotaInDim S4 32 0))))) (broadcastInDim S20x4x32768 ![] bcast_S_S20x4x32768 (constantI S_ 32 255#32))) shapeCasts_S20x4x32768_S80x32768

/-- The old scales. -/
def scale : FVec F S1x32768 .f32 :=
  extractStridedSlice S1x32768 ![0, 0] (bitcastToFloat (F := F) .f32 (extractStridedSlice S4x32768 ![20, 0] x2 slices_S24x32768_S4x32768_20_0)) slices_S4x32768_S1x32768_0_0

/-- The old biases. -/
def bias : FVec F S1x32768 .f32 :=
  extractStridedSlice S1x32768 ![1, 0] (bitcastToFloat (F := F) .f32 (extractStridedSlice S4x32768 ![20, 0] x2 slices_S24x32768_S4x32768_20_0)) slices_S4x32768_S1x32768_1_0

/-- The new momentum. -/
def mom : FVec F S32768 .f32 :=
  addf (shapeCast _ (extractStridedSlice S1x32768 ![2, 0] (bitcastToFloat (F := F) .f32 (extractStridedSlice S4x32768 ![20, 0] x2 slices_S24x32768_S4x32768_20_0)) slices_S4x32768_S1x32768_2_0) shapeCasts_S1x32768_S32768) (Host.divf (Host.reduceAdd (mulf (grad x0 x1) (grad x0 x1)) (constant S_ .f32 0x00000000#32) reducesTo_S160x32768_S32768_d0 h_S_) (broadcastInDim S32768 ![] bcast_S_S32768 (constant S_ .f32 0x43200000#32)))

/-- `sqrt (momentum) + eps`. -/
def denom : FVec F S32768 .f32 :=
  addf (Host.sqrt (mom x0 x1 x2)) (broadcastInDim S32768 ![] bcast_S_S32768 (constant S_ .f32 0x322BCC77#32))

/-- The updated weights of the even channels. -/
def even : FVec F S80x32768 .f32 :=
  subf (addf (mulf (sitofp .f32 (andi (codes (F := F) x2) (broadcastInDim S80x32768 ![] bcast_S_S80x32768 (constantI S_ 32 15#32)))) (broadcastInDim S80x32768 ![0, 1] bcast_S1x32768_S80x32768_0_1 (scale x2))) (broadcastInDim S80x32768 ![0, 1] bcast_S1x32768_S80x32768_0_1 (bias x2))) (Host.divf (mulf (broadcastInDim S80x32768 ![] bcast_S_S80x32768 (constant S_ .f32 0x3DCCCCCD#32)) (Host.slice S80x32768 ![0, 0] ![2, 1] (grad x0 x1) slicesBy_S160x32768_S80x32768_0s2_0s1)) (broadcastInDim S80x32768 ![0, 1] bcast_S1x32768_S80x32768_0_1 (broadcastInDim S1x32768 ![1] bcast_S32768_S1x32768_1 (denom x0 x1 x2))))

/-- The updated weights of the odd channels. -/
def odd : FVec F S80x32768 .f32 :=
  subf (addf (mulf (sitofp .f32 (Host.shrsi (codes (F := F) x2) (broadcastInDim S80x32768 ![] bcast_S_S80x32768 (constantI S_ 32 4#32)))) (broadcastInDim S80x32768 ![0, 1] bcast_S1x32768_S80x32768_0_1 (scale x2))) (broadcastInDim S80x32768 ![0, 1] bcast_S1x32768_S80x32768_0_1 (bias x2))) (Host.divf (mulf (broadcastInDim S80x32768 ![] bcast_S_S80x32768 (constant S_ .f32 0x3DCCCCCD#32)) (Host.slice S80x32768 ![1, 0] ![2, 1] (grad x0 x1) slicesBy_S160x32768_S80x32768_1s2_0s1)) (broadcastInDim S80x32768 ![0, 1] bcast_S1x32768_S80x32768_0_1 (broadcastInDim S1x32768 ![1] bcast_S32768_S1x32768_1 (denom x0 x1 x2))))

/-- The least updated weight of each column. -/
def rmin : FVec F S32768 .f32 :=
  minimumf (Host.reduce FloatOps.minimumf (even x0 x1 x2) (constant S_ .f32 0x7F800000#32) reducesTo_S80x32768_S32768_d0 h_S_) (Host.reduce FloatOps.minimumf (odd x0 x1 x2) (constant S_ .f32 0x7F800000#32) reducesTo_S80x32768_S32768_d0 h_S_)

/-- The greatest updated weight of each column. -/
def rmax : FVec F S32768 .f32 :=
  maximumf (Host.reduce FloatOps.maximumf (even x0 x1 x2) (constant S_ .f32 0xFF800000#32) reducesTo_S80x32768_S32768_d0 h_S_) (Host.reduce FloatOps.maximumf (odd x0 x1 x2) (constant S_ .f32 0xFF800000#32) reducesTo_S80x32768_S32768_d0 h_S_)

/-- The new scales. -/
def newScale : FVec F S32768 .f32 :=
  select (cmpf .oeq (rmax x0 x1 x2) (rmin x0 x1 x2)) (broadcastInDim S32768 ![] bcast_S_S32768 (constant S_ .f32 0x3F800000#32)) (Host.divf (subf (rmax x0 x1 x2) (rmin x0 x1 x2)) (broadcastInDim S32768 ![] bcast_S_S32768 (constant S_ .f32 0x41700000#32)))

/-- Weights `w` quantised: integers 0 to 15. -/
def quant (w : FVec F S80x32768 .f32) : FVec F S80x32768 .f32 :=
  minimumf (broadcastInDim S80x32768 ![] bcast_S_S80x32768 (id (constant S_ .f32 0x41700000#32))) (maximumf (broadcastInDim S80x32768 ![] bcast_S_S80x32768 (sitofp .f32 (constantI S_ 32 0#32))) (Host.roundeven (Host.divf (subf w (broadcastInDim S80x32768 ![0, 1] bcast_S1x32768_S80x32768_0_1 (broadcastInDim S1x32768 ![1] bcast_S32768_S1x32768_1 (rmin x0 x1 x2)))) (broadcastInDim S80x32768 ![0, 1] bcast_S1x32768_S80x32768_0_1 (broadcastInDim S1x32768 ![1] bcast_S32768_S1x32768_1 (newScale x0 x1 x2))))))

/-- The new code bytes. -/
def bytes : IVec S80x32768 8 :=
  trunci 8 (addi (fptosi 32 (quant x0 x1 x2 (even x0 x1 x2))) (muli (fptosi 32 (quant x0 x1 x2 (odd x0 x1 x2))) (broadcastInDim S80x32768 ![] bcast_S_S80x32768 (constantI S_ 32 16#32)))) natLt_8_32

section
variable (m : (ℓ : Loc nD τ sig) → Buf (Elt F) ℓ) (c : Dev nD)

theorem bytes_eq : Value.res_main_v95 m c = bytes (F := F) (m ((c.tc : Thread nD τ).loc main_arg0)) (m ((c.tc : Thread nD τ).loc main_arg1)) (m ((c.tc : Thread nD τ).loc main_arg2)) := rfl

theorem newScale_eq : Value.res_main_v96 m c = broadcastInDim S1x32768 ![1] bcast_S32768_S1x32768_1 (newScale (F := F) (m ((c.tc : Thread nD τ).loc main_arg0)) (m ((c.tc : Thread nD τ).loc main_arg1)) (m ((c.tc : Thread nD τ).loc main_arg2))) := rfl

theorem rmin_eq : Value.res_main_v97 m c = broadcastInDim S1x32768 ![1] bcast_S32768_S1x32768_1 (rmin (F := F) (m ((c.tc : Thread nD τ).loc main_arg0)) (m ((c.tc : Thread nD τ).loc main_arg1)) (m ((c.tc : Thread nD τ).loc main_arg2))) := rfl

end

/-- The reference runs: it ends with its results at the named arrays of its arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = bytes (F := F) (m ((c.tc : Thread nD τ).loc main_arg0)) (m ((c.tc : Thread nD τ).loc main_arg1)) (m ((c.tc : Thread nD τ).loc main_arg2))
      ∧ r.2.mem ((c.tc : Thread nD τ).loc main_v96) = broadcastInDim S1x32768 ![1] bcast_S32768_S1x32768_1
          (newScale (F := F) (m ((c.tc : Thread nD τ).loc main_arg0)) (m ((c.tc : Thread nD τ).loc main_arg1)) (m ((c.tc : Thread nD τ).loc main_arg2)))
      ∧ r.2.mem ((c.tc : Thread nD τ).loc main_v97) = broadcastInDim S1x32768 ![1] bcast_S32768_S1x32768_1
          (rmin (F := F) (m ((c.tc : Thread nD τ).loc main_arg0)) (m ((c.tc : Thread nD τ).loc main_arg1)) (m ((c.tc : Thread nD τ).loc main_arg2)))
      ∧ r.2.mem ((c.tc : Thread nD τ).loc main_v98) = broadcastInDim S1x32768 ![1] bcast_S32768_S1x32768_1
          (mom (F := F) (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (bytes_eq m c), (h c).2.1.trans (newScale_eq m c), (h c).2.2.1.trans (rmin_eq m c), (h c).2.2.2.1, (h c).2.2.2.2⟩)
    (Value.run m ρ)

end Cert.ReferenceIdeal.Arrays

end
-- ==== Proof.RefValue.lean ====
/- The reference's arrays, read at an index: each is the plain per-column computation (`Cert.Adagrad`) of the index's column. -/
module

public import proofs.«01_k».proof.Proof.RefArrays
public import proofs.«01_k».proof.Proof.Spec
public import proofs.«01_k».proof.Proof.Words
public import Idealize.ShloMosaic.Lib.IdealHost

@[expose] public section

set_option maxRecDepth 16384

noncomputable section

namespace Cert.ReferenceIdeal.Arrays

open Cert.ReferenceIdeal Cert.ReferenceIdeal.Gen Cert.Adagrad
open Idealize.ShloMosaic

/-! The operations on arbitrary arrays. -/

/-- A reduction of a matrix along its rows, at a column: the fold of the column. -/
theorem reduce_at {n k : Nat} {u : Shape} (f op : EReal → EReal → EReal) [Std.Commutative op] [Std.Associative op]
    (hf : f = op) (h : (⟨2, ![k, n]⟩ : Shape).ReducesTo [0] ⟨1, ![n]⟩) (hu : 0 < u.numel) (v : (⟨2, ![k, n]⟩ : Shape).Idx → EReal) (b : u.Idx → EReal)
    (c : EReal) (hb : b (Shape.Idx.first hu) = c) (j : Fin n) :
    Host.reduce f v b h hu (ix1 j) = Finset.univ.fold op c fun x => v (ix2 x j) :=
  by
  subst hf hb
  exact (Host.reduce_eq_fold f v b h hu (ix1 j)).trans (h.fold_fiber_r2_a0 (ix1 j) f _ v)

section
variable (a b : FVec Ideal S32768 .f32) (v w : FVec Ideal S80x32768 .f32)

theorem min_col (u : Fin 32768) :
    Host.reduce (FloatOps.minimumf (F := Ideal) (φ := .f32)) v (constant S_ .f32 0x7F800000#32) reducesTo_S80x32768_S32768_d0 h_S_ (ix1 u)
    = Finset.univ.fold min (Ideal.ofBits .f32 0x7F800000#32) fun x => v (ix2 x u) := by
  refine reduce_at (n := 32768) (k := 80) (u := S_) _ min ?_ _ h_S_ v _ _ ?_ u
  · rfl
  · rfl

theorem min_at (u : Fin 32768) : minimumf a b (ix1 u) = min (a (ix1 u)) (b (ix1 u)) := rfl

theorem max_col (u : Fin 32768) :
    Host.reduce (FloatOps.maximumf (F := Ideal) (φ := .f32)) v (constant S_ .f32 0xFF800000#32) reducesTo_S80x32768_S32768_d0 h_S_ (ix1 u)
    = Finset.univ.fold max (Ideal.ofBits .f32 0xFF800000#32) fun x => v (ix2 x u) := by
  refine reduce_at (n := 32768) (k := 80) (u := S_) _ max ?_ _ h_S_ v _ _ ?_ u
  · rfl
  · rfl

theorem max_at (u : Fin 32768) : maximumf a b (ix1 u) = max (a (ix1 u)) (b (ix1 u)) := rfl

theorem select_at (u : Fin 32768) :
    (select (cmpf .oeq a b) (broadcastInDim S32768 ![] bcast_S_S32768 (constant S_ .f32 0x3F800000#32))
      (Host.divf (subf a b) (broadcastInDim S32768 ![] bcast_S_S32768 (constant (F := Ideal) S_ .f32 0x41700000#32)))) (ix1 u)
    = Scalar.select (Ideal.cmp .oeq (a (ix1 u)) (b (ix1 u))) (Ideal.ofBits .f32 0x3F800000#32)
        (Ideal.div (a (ix1 u) - b (ix1 u)) (Ideal.ofBits .f32 0x41700000#32)) := by
  pointwise

theorem quant_op_at (r : Fin 80) (u : Fin 32768) :
    (minimumf (broadcastInDim S80x32768 ![] bcast_S_S80x32768 (id (constant S_ .f32 0x41700000#32)))
      (maximumf (broadcastInDim S80x32768 ![] bcast_S_S80x32768 (sitofp .f32 (constantI S_ 32 0#32)))
        (Host.roundeven (Host.divf
          (subf w (broadcastInDim S80x32768 ![0, 1] bcast_S1x32768_S80x32768_0_1 (broadcastInDim S1x32768 ![1] bcast_S32768_S1x32768_1 a)))
          (broadcastInDim S80x32768 ![0, 1] bcast_S1x32768_S80x32768_0_1 (broadcastInDim S1x32768 ![1] bcast_S32768_S1x32768_1 b)))))) (ix2 r u)
    = min (Ideal.ofBits .f32 0x41700000#32)
        (max 0 (Ideal.liftRound Ideal.roundHalfEven (Ideal.div (w (ix2 r u) - a (ix1 u)) (b (ix1 u))))) := by
  rw [id]
  pointwise
  rw [show FloatOps.sitofp (F := Ideal) FTy.f32 (0#32) = (0 : EReal) by show (((0#32 : BitVec 32).toInt : ℝ) : EReal) = 0; simp]

end

/-! The arrays. -/

section
variable (x0 : Vec Ideal S2x128x160 .bf16) (x1 : Vec Ideal S128x32768 .i32) (x2 : Vec Ideal S24x32768 .i32)
variable (u : Fin 32768)

theorem grad_at (ch : Fin 160) : grad (F := Ideal) x0 x1 (ix2 ch u) = (column x0 x1 x2 u).g ch := by
  have h : grad (F := Ideal) x0 x1 (ix2 ch u)
      = ∑ x : Fin 128, x0 (ix3 ⟨x.val / 128, by omega⟩ ⟨x.val % 128, by omega⟩ ch) * ofWord (IntOp.andi (x1 (ix2 x u)) 65535#32)
        + ∑ x : Fin 128, x0 (ix3 ⟨(128 + x.val) / 128, by omega⟩ ⟨(128 + x.val) % 128, by omega⟩ ch)
            * ofWord (IntOp.shrui ArithUnit.host (x1 (ix2 x u)) 16#32) := by
    unfold grad
    pointwise [counts]
    rfl
  rw [h]
  refine congrArg₂ (· + ·) (Finset.sum_congr rfl fun x _ => ?_) (Finset.sum_congr rfl fun x _ => ?_)
  · rw [show (⟨x.val / 128, by omega⟩ : Fin 2) = 0 from Fin.ext (Nat.div_eq_of_lt x.isLt),
      show (⟨x.val % 128, by omega⟩ : Fin 128) = x from Fin.ext (Nat.mod_eq_of_lt x.isLt)]
    rfl
  · rw [show (⟨(128 + x.val) / 128, by omega⟩ : Fin 2) = 1 from Fin.ext (by show (128 + x.val) / 128 = 1; omega),
      show (⟨(128 + x.val) % 128, by omega⟩ : Fin 128) = x from Fin.ext (by show (128 + x.val) % 128 = x.val; omega),
      shrui_lit _ _ 16 (by decide)]

theorem codes_at (r : Fin 80) : codes (F := Ideal) x2 (ix2 r u) = (column x0 x1 x2 u).code r := by
  have h : codes (F := Ideal) x2 (ix2 r u)
      = IntOp.andi (IntOp.shrsi ArithUnit.host (x2 (ix2 ⟨r.val / 4, by omega⟩ u)) (IntOp.muli (8#32) (BitVec.ofNat 32 (r.val % 4)))) 255#32 := by
    unfold codes
    pointwise
  rw [h, show IntOp.muli (8#32) (BitVec.ofNat 32 (r.val % 4)) = BitVec.ofNat 32 (8 * (r.val % 4)) from BitVec.ofNat_mul_ofNat ..,
    shrsi_lit _ _ _ (by omega)]
  rfl

theorem scale_at : scale (F := Ideal) x2 (ix2 0 u) = (column x0 x1 x2 u).scale := by
  unfold scale; pointwise; rfl

theorem bias_at : bias (F := Ideal) x2 (ix2 0 u) = (column x0 x1 x2 u).bias := by
  unfold bias; pointwise; rfl

theorem mom_at : mom (F := Ideal) x0 x1 x2 (ix1 u) = (column x0 x1 x2 u).newMom := by
  unfold mom; pointwise; simp only [grad_at x0 x1 x2 u]; rfl

theorem denom_at : denom (F := Ideal) x0 x1 x2 (ix1 u) = (column x0 x1 x2 u).denom := by
  unfold denom; pointwise; rw [mom_at]; rfl

theorem even_at (r : Fin 80) : even (F := Ideal) x0 x1 x2 (ix2 r u) = (column x0 x1 x2 u).even r := by
  unfold even; pointwise; rw [codes_at x0 x1, scale_at x0 x1, bias_at x0 x1, grad_at x0 x1 x2, denom_at]; rfl

theorem odd_at (r : Fin 80) : odd (F := Ideal) x0 x1 x2 (ix2 r u) = (column x0 x1 x2 u).odd r := by
  unfold odd; pointwise
  rw [codes_at x0 x1, scale_at x0 x1, bias_at x0 x1, grad_at x0 x1 x2, denom_at, shrsi_lit _ _ 4 (by decide)]
  rfl

theorem rmin_at : rmin (F := Ideal) x0 x1 x2 (ix1 u) = (column x0 x1 x2 u).rmin := by
  unfold rmin
  rw [min_at, min_col, min_col]
  simp only [even_at, odd_at]
  rfl

theorem rmax_at : rmax (F := Ideal) x0 x1 x2 (ix1 u) = (column x0 x1 x2 u).rmax := by
  unfold rmax
  rw [max_at, max_col, max_col]
  simp only [even_at, odd_at]
  rfl

theorem newScale_at : newScale (F := Ideal) x0 x1 x2 (ix1 u) = (column x0 x1 x2 u).newScale := by
  unfold newScale
  rw [select_at, rmin_at, rmax_at]
  rfl

theorem quant_at (w : FVec Ideal S80x32768 .f32) (r : Fin 80) :
    quant (F := Ideal) x0 x1 x2 w (ix2 r u) = (column x0 x1 x2 u).quant (w (ix2 r u)) := by
  unfold quant
  rw [quant_op_at, rmin_at, newScale_at]
  rfl

theorem bytes_at (r : Fin 80) : bytes (F := Ideal) x0 x1 x2 (ix2 r u) = (column x0 x1 x2 u).byte r := by
  have h (v w : FVec Ideal S80x32768 .f32) :
      (trunci 8 (addi (fptosi 32 v) (muli (fptosi 32 w) (broadcastInDim S80x32768 ![] bcast_S_S80x32768 (constantI S_ 32 16#32)))) natLt_8_32)
        (ix2 r u) = (Ideal.fptosi 32 (v (ix2 r u)) + Ideal.fptosi 32 (w (ix2 r u)) * 16#32).setWidth 8 := by
    pointwise
    rfl
  unfold bytes
  rw [h, quant_at, quant_at, even_at, odd_at]
  rfl

end

end Cert.ReferenceIdeal.Arrays

end
-- ==== Proof.Agree.lean ====
/- The kernel and the reference end with the same results: both hold each column's new code bytes, scale, bias and momentum. -/
module

public import proofs.«01_k».proof.Proof.KernelValue
public import proofs.«01_k».proof.Proof.RefValue
public import proofs.«01_k».proof.Defs
public import Idealize.ShloMosaic.Lib.Quiescent

@[expose] public section

set_option maxRecDepth 16384

noncomputable section

namespace Cert.Proof

open Idealize.ShloMosaic Idealize.SL.Sem
open Cert.Adagrad Cert.ReferenceIdeal Cert.ReferenceIdeal.Gen Cert.ReferenceIdeal.Arrays

/-- A row of per-column values, read at a column. -/
theorem row_at (v : FVec Ideal S32768 .f32) (u : Fin 32768) :
    broadcastInDim S1x32768 ![1] bcast_S32768_S1x32768_1 v (ix2 0 u) = v (ix1 u) := by
  pointwise

/-- A row of per-column values, as a function of the column. -/
theorem row_eq (v : FVec Ideal S32768 .f32) (f : Fin 32768 → EReal) (h : ∀ u, v (ix1 u) = f u) :
    broadcastInDim S1x32768 ![1] bcast_S32768_S1x32768_1 v = fun i => f (i 1) := by
  funext i
  obtain ⟨r, u, rfl⟩ : ∃ (r : Fin 1) (u : Fin 32768), i = (ix2 r u : S1x32768.Idx) := ⟨i 0, i 1, eq_ix2 i⟩
  obtain rfl : r = 0 := Subsingleton.elim _ _
  rw [row_at, h]
  rfl

theorem bytes_all (x0 : FVec Ideal S2x128x160 .bf16) (x1 : IVec S128x32768 32) (x2 : IVec S24x32768 32) :
    bytes (F := Ideal) x0 x1 x2 = fun i => (column x0 x1 x2 (i 1)).byte (i 0) := by
  funext i
  obtain ⟨r, u, rfl⟩ : ∃ (r : Fin 80) (u : Fin 32768), i = (ix2 r u : S80x32768.Idx) := ⟨i 0, i 1, eq_ix2 i⟩
  rw [bytes_at]
  rfl

theorem algebraic : Cert.algebraic_KernelIdeal_ReferenceIdeal := by
  intro m ρ m' ρ' _ hagree
  refine ⟨fun c => Cert.KernelIdeal.Body.allCodes m c, fun c => Cert.KernelIdeal.Body.allScale m c, fun c => Cert.KernelIdeal.Body.allBias m c,
    fun c => Cert.KernelIdeal.Body.allMom m c, Cert.KernelIdeal.Body.run m ρ, ?_⟩
  refine (θ_run Cert.ReferenceIdeal.defs _ _).mono (fun _ h c => ?_) (Cert.ReferenceIdeal.Arrays.run (F := Ideal) m' ρ')
  obtain ⟨h0, h1, h2, h3, hargs⟩ := h c
  obtain ⟨e0, e1, e2⟩ := hagree c
  rw [e0, e1, e2] at h0 h1 h2 h3
  exact ⟨h0.trans (bytes_all _ _ _), h1.trans (row_eq _ _ fun u => newScale_at _ _ _ u), h2.trans (row_eq _ _ fun u => rmin_at _ _ _ u),
    h3.trans (row_eq _ _ fun u => mom_at _ _ _ u), hargs⟩

/-- The reference ends with its arguments unchanged and, having no semaphore, with every counter at zero. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Arrays.run (F := Ideal) m ρ)

end Cert.Proof

end
-- ==== Proof.lean ====
/- The certificate: the kernel's frame at machine floats and at the extended reals, the reference's frame, and the agreement of
   the kernel's results with the reference's, put together. -/
module

public import proofs.«01_k».proof.Proof.KernelBits.Launch
public import proofs.«01_k».proof.Proof.Agree
public import proofs.«01_k».proof.Proof.Gen.Kernel
public import proofs.«01_k».proof.Proof.Gen.KernelIdeal
public import proofs.«01_k».proof.Proof.Gen.ReferenceIdeal

@[expose] public section

noncomputable section

namespace Cert.Proof

theorem frame_kernel : Cert.quiescent_Kernel := fun m ρ _ => Cert.Kernel.Body.frame m ρ

theorem frame_ideal : Cert.quiescent_KernelIdeal := fun m ρ _ => Cert.KernelIdeal.Body.frame m ρ

/-- No operation was rewritten. -/
theorem preserves : Cert.preserves_Kernel_KernelIdeal := trivial

theorem claim : Cert.Claim := ⟨Cert.Kernel.Gen.facts, Cert.KernelIdeal.Gen.facts, Cert.ReferenceIdeal.Gen.facts,
  frame_kernel, frame_ideal, frame_reference, preserves, algebraic⟩

end Cert.Proof

end
